-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 1024, 4096]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 512]⟩ ⟨2, ![4, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S512x512 : Shape := ⟨2, ![512, 512]⟩
abbrev S4096x512 : Shape := ⟨2, ![4096, 512]⟩
abbrev S2x1032x512 : Shape := ⟨3, ![2, 1032, 512]⟩
abbrev S2 : Shape := ⟨1, ![2]⟩
abbrev S6 : Shape := ⟨1, ![6]⟩
abbrev S18 : Shape := ⟨1, ![18]⟩
abbrev S_ : Shape := ⟨0, ![]⟩
abbrev S8x512 : Shape := ⟨2, ![8, 512]⟩
abbrev S1x8x512 : Shape := ⟨3, ![1, 8, 512]⟩
abbrev S1 : Shape := ⟨1, ![1]⟩
abbrev S1x1024x512 : Shape := ⟨3, ![1, 1024, 512]⟩
abbrev S1024x512 : Shape := ⟨2, ![1024, 512]⟩
abbrev S1x512 : Shape := ⟨2, ![1, 512]⟩
abbrev S704x512 : Shape := ⟨2, ![704, 512]⟩
abbrev S640x512 : Shape := ⟨2, ![640, 512]⟩
abbrev S352x512 : Shape := ⟨2, ![352, 512]⟩
abbrev S320x512 : Shape := ⟨2, ![320, 512]⟩

abbrev nBuf : Space → Nat
  | .hbm => 4
  | .vmem => 7
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S512x512, .f32⟩
  | .hbm, ⟨3, _⟩ => ⟨S4096x512, .f32⟩
  | .local _ .vmem, ⟨0, _⟩ => ⟨S4x512, .f32⟩
  | .local _ .vmem, ⟨1, _⟩ => ⟨S512x512, .f32⟩
  | .local _ .vmem, ⟨2, _⟩ => ⟨S2x1032x512, .f32⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_6 : BitVec 32 := 1#32
  let v12 : BitVec 32 := Scalar.xori v5 c1_i32_6
  let c1_i32_7 : BitVec 32 := 1#32
  let v13 : BitVec 32 := Scalar.shrsi v12 c1_i32_7
  let c1_i32_8 : BitVec 32 := 1#32
  let v14 : BitVec 32 := Scalar.andi v13 c1_i32_8
  let v15 : BitVec 32 := Scalar.xori v12 v14
  let c1_i32_10 : BitVec 32 := 1#32
  let v16 : BitVec 32 := Scalar.muli v15 c1_i32_10
  let v17 : BitVec 32 := Scalar.addi c0_i32 v16
  v17.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_11 : BitVec 32 := 2#32
  let v18 : BitVec 32 := Scalar.xori v5 c2_i32_11
  let c1_i32_12 : BitVec 32 := 1#32
  let v19 : BitVec 32 := Scalar.shrsi v18 c1_i32_12
  let c1_i32_13 : BitVec 32 := 1#32
  let v20 : BitVec 32 := Scalar.andi v19 c1_i32_13
  let v21 : BitVec 32 := Scalar.xori v18 v20
  let c1_i32_15 : BitVec 32 := 1#32
  let v22 : BitVec 32 := Scalar.muli v21 c1_i32_15
  let v23 : BitVec 32 := Scalar.addi c0_i32_16 v22
  v23.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v24 : BitVec 32 := Scalar.xori v5 c4_i32
  let c1_i32_17 : BitVec 32 := 1#32
  let v25 : BitVec 32 := Scalar.shrsi v24 c1_i32_17
  let c1_i32_18 : BitVec 32 := 1#32
  let v26 : BitVec 32 := Scalar.andi v25 c1_i32_18
  let v27 : BitVec 32 := Scalar.xori v24 v26
  let c1_i32_20 : BitVec 32 := 1#32
  let v28 : BitVec 32 := Scalar.muli v27 c1_i32_20
  let v29 : BitVec 32 := Scalar.addi c0_i32_21 v28
  v29.toNat
def k0_off1 (d0 : Dev nD) (c0_i32_106 : BitVec 32) (c2_i32 : BitVec 32) : Fin 2 → Nat :=
  let c1_i32_104 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c2_i32
  let c1_i32_2 : BitVec 32 := 1#32
  let v7 : BitVec 32 := Scalar.andi v6 c1_i32_2
  let v143 : BitVec 32 := Scalar.subi c1_i32_104 v7
  let c704_i32_105 : BitVec 32 := 704#32
  let v144 : BitVec 32 := Scalar.muli v143 c704_i32_105
  let v145 : BitVec 32 := Scalar.addi c0_i32_106 v144
  let c0_i32_116 : BitVec 32 := 0#32
  ![v145.toNat, 0]
def k0_off1_at (r : Fin 2) : BitVec 32 × BitVec 32 :=
  if r.val < 1 then
    (0#32, 2#32)
  else
    (1408#32, 1#32)
def k0_dev4 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_107 : BitVec 32 := 4#32
  let v146 : BitVec 32 := Scalar.xori v5 c4_i32_107
  let c1_i32_108 : BitVec 32 := 1#32
  let v147 : BitVec 32 := Scalar.shrsi v146 c1_i32_108
  let c1_i32_109 : BitVec 32 := 1#32
  let v148 : BitVec 32 := Scalar.andi v147 c1_i32_109
  let v149 : BitVec 32 := Scalar.xori v146 v148
  let c1_i32_112 : BitVec 32 := 1#32
  let v150 : BitVec 32 := Scalar.muli v149 c1_i32_112
  let v151 : BitVec 32 := Scalar.addi c0_i32_113 v150
  v151.toNat
def k0_dev5 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_157 : BitVec 32 := 2#32
  let v210 : BitVec 32 := Scalar.xori v5 c2_i32_157
  let c1_i32_158 : BitVec 32 := 1#32
  let v211 : BitVec 32 := Scalar.shrsi v210 c1_i32_158
  let c1_i32_159 : BitVec 32 := 1#32
  let v212 : BitVec 32 := Scalar.andi v211 c1_i32_159
  let v213 : BitVec 32 := Scalar.xori v210 v212
  let c1_i32_161 : BitVec 32 := 1#32
  let v214 : BitVec 32 := Scalar.muli v213 c1_i32_161
  let v215 : BitVec 32 := Scalar.addi c0_i32_162 v214
  v215.toNat
def k0_off2 (d0 : Dev nD) : Fin 2 → Nat :=
  let c2816_i32_197 : BitVec 32 := 2816#32
  let c1_i32_195 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_5 : BitVec 32 := 1#32
  let v10 : BitVec 32 := Scalar.andi v5 c1_i32_5
  let v265 : BitVec 32 := Scalar.subi c1_i32_195 v10
  let c640_i32_196 : BitVec 32 := 640#32
  let v266 : BitVec 32 := Scalar.muli v265 c640_i32_196
  let v267 : BitVec 32 := Scalar.addi c2816_i32_197 v266
  let c0_i32_206 : BitVec 32 := 0#32
  ![v267.toNat, 0]
def k0_dev6 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_198 : BitVec 32 := 1#32
  let v268 : BitVec 32 := Scalar.xori v5 c1_i32_198
  let c1_i32_199 : BitVec 32 := 1#32
  let v269 : BitVec 32 := Scalar.shrsi v268 c1_i32_199
  let c1_i32_200 : BitVec 32 := 1#32
  let v270 : BitVec 32 := Scalar.andi v269 c1_i32_200
  let v271 : BitVec 32 := Scalar.xori v268 v270
  let c1_i32_202 : BitVec 32 := 1#32
  let v272 : BitVec 32 := Scalar.muli v271 c1_i32_202
  let v273 : BitVec 32 := Scalar.addi c0_i32_203 v272
  v273.toNat
def k0_off3 (d0 : Dev nD) (c0_i32_103 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c2_i32
  let c1_i32_2 : BitVec 32 := 1#32
  let v7 : BitVec 32 := Scalar.andi v6 c1_i32_2
  let c704_i32 : BitVec 32 := 704#32
  let v141 : BitVec 32 := Scalar.muli v7 c704_i32
  let v142 : BitVec 32 := Scalar.addi c0_i32_103 v141
  let v290 : Index := Scalar.indexCast v142
  let c0_220 : Index := 0#32
  ![v290.toNat, 0]
def k0_off3_at (r : Fin 2) : BitVec 32 × BitVec 32 :=
  if r.val < 1 then
    (0#32, 2#32)
  else
    (1408#32, 1#32)
def k0_off4 (d0 : Dev nD) : Fin 2 → Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v6 : BitVec 32 := Scalar.shrsi v5 c2_i32
  let c1_i32_2 : BitVec 32 := 1#32
  let v7 : BitVec 32 := Scalar.andi v6 c1_i32_2
  let c704_i32_224 : BitVec 32 := 704#32
  let v298 : BitVec 32 := Scalar.muli v7 c704_i32_224
  let v299 : BitVec 32 := Scalar.addi c0_i32_225 v298
  let c1_i32_226 : BitVec 32 := 1#32
  let c1_i32_3 : BitVec 32 := 1#32
  let v8 : BitVec 32 := Scalar.shrsi v5 c1_i32_3
  let c1_i32_4 : BitVec 32 := 1#32
  let v9 : BitVec 32 := Scalar.andi v8 c1_i32_4
  let v302 : BitVec 32 := Scalar.subi c1_i32_226 v9
  let c352_i32_227 : BitVec 32 := 352#32
  let v303 : BitVec 32 := Scalar.muli v302 c352_i32_227
  let v304 : BitVec 32 := Scalar.addi v299 v303
  let c0_i32_237 : BitVec 32 := 0#32
  ![v304.toNat, 0]
def k0_dev7 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_228 : BitVec 32 := 2#32
  let v305 : BitVec 32 := Scalar.xori v5 c2_i32_228
  let c1_i32_229 : BitVec 32 := 1#32
  let v306 : BitVec 32 := Scalar.shrsi v305 c1_i32_229
  let c1_i32_230 : BitVec 32 := 1#32
  let v307 : BitVec 32 := Scalar.andi v306 c1_i32_230
  let v308 : BitVec 32 := Scalar.xori v305 v307
  let c1_i32_233 : BitVec 32 := 1#32
  let v309 : BitVec 32 := Scalar.muli v308 c1_i32_233
  let v310 : BitVec 32 := Scalar.addi c0_i32_234 v309
  v310.toNat
def k0_off5 (d0 : Dev nD) : Fin 2 → Nat :=
  let c1408_i32_255 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c704_i32_254 : BitVec 32 := 704#32
  let v335 : BitVec 32 := Scalar.muli v9 c704_i32_254
  let v336 : BitVec 32 := Scalar.addi c1408_i32_255 v335
  let c1_i32_257 : BitVec 32 := 1#32
  let c1_i32_5 : BitVec 32 := 1#32
  let v10 : BitVec 32 := Scalar.andi v5 c1_i32_5
  let v339 : BitVec 32 := Scalar.subi c1_i32_257 v10
  let c352_i32_258 : BitVec 32 := 352#32
  let v340 : BitVec 32 := Scalar.muli v339 c352_i32_258
  let v341 : BitVec 32 := Scalar.addi v336 v340
  let c0_i32_266 : BitVec 32 := 0#32
  ![v341.toNat, 0]
def k0_dev8 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_259 : BitVec 32 := 1#32
  let v342 : BitVec 32 := Scalar.xori v5 c1_i32_259
  let c1_i32_260 : BitVec 32 := 1#32
  let v343 : BitVec 32 := Scalar.shrsi v342 c1_i32_260
  let c1_i32_261 : BitVec 32 := 1#32
  let v344 : BitVec 32 := Scalar.andi v343 c1_i32_261
  let v345 : BitVec 32 := Scalar.xori v342 v344
  let c1_i32_263 : BitVec 32 := 1#32
  let v346 : BitVec 32 := Scalar.muli v345 c1_i32_263
  let v347 : BitVec 32 := Scalar.addi c0_i32_264 v346
  v347.toNat
def k0_off6 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_5 : BitVec 32 := 1#32
  let v10 : BitVec 32 := Scalar.andi v5 c1_i32_5
  let c640_i32 : BitVec 32 := 640#32
  let v263 : BitVec 32 := Scalar.muli v10 c640_i32
  let v264 : BitVec 32 := Scalar.addi c2816_i32 v263
  let v364 : Index := Scalar.indexCast v264
  let c0_280 : Index := 0#32
  ![v364.toNat, 0]
def k0_off7 (d0 : Dev nD) : Fin 2 → Nat :=
  let c2816_i32_284 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_5 : BitVec 32 := 1#32
  let v10 : BitVec 32 := Scalar.andi v5 c1_i32_5
  let c640_i32_283 : BitVec 32 := 640#32
  let v372 : BitVec 32 := Scalar.muli v10 c640_i32_283
  let v373 : BitVec 32 := Scalar.addi c2816_i32_284 v372
  let c1_i32_285 : BitVec 32 := 1#32
  let c2_i32 : BitVec 32 := 2#32
  let v6 : BitVec 32 := Scalar.shrsi v5 c2_i32
  let c1_i32_2 : BitVec 32 := 1#32
  let v7 : BitVec 32 := Scalar.andi v6 c1_i32_2
  let v376 : BitVec 32 := Scalar.subi c1_i32_285 v7
  let c320_i32_286 : BitVec 32 := 320#32
  let v377 : BitVec 32 := Scalar.muli v376 c320_i32_286
  let v378 : BitVec 32 := Scalar.addi v373 v377
  let c0_i32_294 : BitVec 32 := 0#32
  ![v378.toNat, 0]
def k0_dev9 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_287 : BitVec 32 := 4#32
  let v379 : BitVec 32 := Scalar.xori v5 c4_i32_287
  let c1_i32_288 : BitVec 32 := 1#32
  let v380 : BitVec 32 := Scalar.shrsi v379 c1_i32_288
  let c1_i32_289 : BitVec 32 := 1#32
  let v381 : BitVec 32 := Scalar.andi v380 c1_i32_289
  let v382 : BitVec 32 := Scalar.xori v379 v381
  let c1_i32_291 : BitVec 32 := 1#32
  let v383 : BitVec 32 := Scalar.muli v382 c1_i32_291
  let v384 : BitVec 32 := Scalar.addi c0_i32_292 v383
  v384.toNat
def k0_off8 (d0 : Dev nD) : Fin 2 → Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v6 : BitVec 32 := Scalar.shrsi v5 c2_i32
  let c1_i32_2 : BitVec 32 := 1#32
  let v7 : BitVec 32 := Scalar.andi v6 c1_i32_2
  let c704_i32_224 : BitVec 32 := 704#32
  let v298 : BitVec 32 := Scalar.muli v7 c704_i32_224
  let v299 : BitVec 32 := Scalar.addi c0_i32_225 v298
  let c1_i32_3 : BitVec 32 := 1#32
  let v8 : BitVec 32 := Scalar.shrsi v5 c1_i32_3
  let c1_i32_4 : BitVec 32 := 1#32
  let v9 : BitVec 32 := Scalar.andi v8 c1_i32_4
  let c352_i32 : BitVec 32 := 352#32
  let v300 : BitVec 32 := Scalar.muli v9 c352_i32
  let v301 : BitVec 32 := Scalar.addi v299 v300
  let v401 : Index := Scalar.indexCast v301
  let c0_308 : Index := 0#32
  ![v401.toNat, 0]
def k0_off9 (d0 : Dev nD) : Fin 2 → Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v6 : BitVec 32 := Scalar.shrsi v5 c2_i32
  let c1_i32_2 : BitVec 32 := 1#32
  let v7 : BitVec 32 := Scalar.andi v6 c1_i32_2
  let c704_i32_311 : BitVec 32 := 704#32
  let v409 : BitVec 32 := Scalar.muli v7 c704_i32_311
  let v410 : BitVec 32 := Scalar.addi c0_i32_312 v409
  let c1_i32_3 : BitVec 32 := 1#32
  let v8 : BitVec 32 := Scalar.shrsi v5 c1_i32_3
  let c1_i32_4 : BitVec 32 := 1#32
  let v9 : BitVec 32 := Scalar.andi v8 c1_i32_4
  let c352_i32_313 : BitVec 32 := 352#32
  let v411 : BitVec 32 := Scalar.muli v9 c352_i32_313
  let v412 : BitVec 32 := Scalar.addi v410 v411
  let c0_i32_322 : BitVec 32 := 0#32
  ![v412.toNat, 0]
def k0_dev10 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_314 : BitVec 32 := 1#32
  let v413 : BitVec 32 := Scalar.xori v5 c1_i32_314
  let c1_i32_315 : BitVec 32 := 1#32
  let v414 : BitVec 32 := Scalar.shrsi v413 c1_i32_315
  let c1_i32_316 : BitVec 32 := 1#32
  let v415 : BitVec 32 := Scalar.andi v414 c1_i32_316
  let v416 : BitVec 32 := Scalar.xori v413 v415
  let c1_i32_319 : BitVec 32 := 1#32
  let v417 : BitVec 32 := Scalar.muli v416 c1_i32_319
  let v418 : BitVec 32 := Scalar.addi c0_i32_320 v417
  v418.toNat
def k0_off10 (d0 : Dev nD) : Fin 2 → Nat :=
  let c1408_i32_255 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c704_i32_254 : BitVec 32 := 704#32
  let v335 : BitVec 32 := Scalar.muli v9 c704_i32_254
  let v336 : BitVec 32 := Scalar.addi c1408_i32_255 v335
  let c1_i32_5 : BitVec 32 := 1#32
  let v10 : BitVec 32 := Scalar.andi v5 c1_i32_5
  let c352_i32_256 : BitVec 32 := 352#32
  let v337 : BitVec 32 := Scalar.muli v10 c352_i32_256
  let v338 : BitVec 32 := Scalar.addi v336 v337
  let v435 : Index := Scalar.indexCast v338
  let c0_336 : Index := 0#32
  ![v435.toNat, 0]
def k0_off11 (d0 : Dev nD) : Fin 2 → Nat :=
  let c1408_i32_340 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v8 : BitVec 32 := Scalar.shrsi v5 c1_i32_3
  let c1_i32_4 : BitVec 32 := 1#32
  let v9 : BitVec 32 := Scalar.andi v8 c1_i32_4
  let c704_i32_339 : BitVec 32 := 704#32
  let v443 : BitVec 32 := Scalar.muli v9 c704_i32_339
  let v444 : BitVec 32 := Scalar.addi c1408_i32_340 v443
  let c1_i32_5 : BitVec 32 := 1#32
  let v10 : BitVec 32 := Scalar.andi v5 c1_i32_5
  let c352_i32_341 : BitVec 32 := 352#32
  let v445 : BitVec 32 := Scalar.muli v10 c352_i32_341
  let v446 : BitVec 32 := Scalar.addi v444 v445
  let c0_i32_350 : BitVec 32 := 0#32
  ![v446.toNat, 0]
def k0_dev11 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_342 : BitVec 32 := 4#32
  let v447 : BitVec 32 := Scalar.xori v5 c4_i32_342
  let c1_i32_343 : BitVec 32 := 1#32
  let v448 : BitVec 32 := Scalar.shrsi v447 c1_i32_343
  let c1_i32_344 : BitVec 32 := 1#32
  let v449 : BitVec 32 := Scalar.andi v448 c1_i32_344
  let v450 : BitVec 32 := Scalar.xori v447 v449
  let c1_i32_347 : BitVec 32 := 1#32
  let v451 : BitVec 32 := Scalar.muli v450 c1_i32_347
  let v452 : BitVec 32 := Scalar.addi c0_i32_348 v451
  v452.toNat
def k0_off12 (d0 : Dev nD) : Fin 2 → Nat :=
  let c2816_i32_284 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_5 : BitVec 32 := 1#32
  let v10 : BitVec 32 := Scalar.andi v5 c1_i32_5
  let c640_i32_283 : BitVec 32 := 640#32
  let v372 : BitVec 32 := Scalar.muli v10 c640_i32_283
  let v373 : BitVec 32 := Scalar.addi c2816_i32_284 v372
  let c2_i32 : BitVec 32 := 2#32
  let v6 : BitVec 32 := Scalar.shrsi v5 c2_i32
  let c1_i32_2 : BitVec 32 := 1#32
  let v7 : BitVec 32 := Scalar.andi v6 c1_i32_2
  let c320_i32 : BitVec 32 := 320#32
  let v374 : BitVec 32 := Scalar.muli v7 c320_i32
  let v375 : BitVec 32 := Scalar.addi v373 v374
  let v469 : Index := Scalar.indexCast v375
  let c0_364 : Index := 0#32
  ![v469.toNat, 0]
def k0_off13 (d0 : Dev nD) : Fin 2 → Nat :=
  let c2816_i32_368 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_5 : BitVec 32 := 1#32
  let v10 : BitVec 32 := Scalar.andi v5 c1_i32_5
  let c640_i32_367 : BitVec 32 := 640#32
  let v477 : BitVec 32 := Scalar.muli v10 c640_i32_367
  let v478 : BitVec 32 := Scalar.addi c2816_i32_368 v477
  let c2_i32 : BitVec 32 := 2#32
  let v6 : BitVec 32 := Scalar.shrsi v5 c2_i32
  let c1_i32_2 : BitVec 32 := 1#32
  let v7 : BitVec 32 := Scalar.andi v6 c1_i32_2
  let c320_i32_369 : BitVec 32 := 320#32
  let v479 : BitVec 32 := Scalar.muli v7 c320_i32_369
  let v480 : BitVec 32 := Scalar.addi v478 v479
  let c0_i32_377 : BitVec 32 := 0#32
  ![v480.toNat, 0]
def k0_dev12 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_370 : BitVec 32 := 2#32
  let v481 : BitVec 32 := Scalar.xori v5 c2_i32_370
  let c1_i32_371 : BitVec 32 := 1#32
  let v482 : BitVec 32 := Scalar.shrsi v481 c1_i32_371
  let c1_i32_372 : BitVec 32 := 1#32
  let v483 : BitVec 32 := Scalar.andi v482 c1_i32_372
  let v484 : BitVec 32 := Scalar.xori v481 v483
  let c1_i32_374 : BitVec 32 := 1#32
  let v485 : BitVec 32 := Scalar.muli v484 c1_i32_374
  let v486 : BitVec 32 := Scalar.addi c0_i32_375 v485
  v486.toNat
def k0_dev13 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_397 : BitVec 32 := 2#32
  let v515 : BitVec 32 := Scalar.xori v5 c2_i32_397
  let c1_i32_398 : BitVec 32 := 1#32
  let v516 : BitVec 32 := Scalar.shrsi v515 c1_i32_398
  let c1_i32_399 : BitVec 32 := 1#32
  let v517 : BitVec 32 := Scalar.andi v516 c1_i32_399
  let v518 : BitVec 32 := Scalar.xori v515 v517
  let c1_i32_402 : BitVec 32 := 1#32
  let v519 : BitVec 32 := Scalar.muli v518 c1_i32_402
  let v520 : BitVec 32 := Scalar.addi c0_i32_403 v519
  v520.toNat
def k0_dev14 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_425 : BitVec 32 := 1#32
  let v549 : BitVec 32 := Scalar.xori v5 c1_i32_425
  let c1_i32_426 : BitVec 32 := 1#32
  let v550 : BitVec 32 := Scalar.shrsi v549 c1_i32_426
  let c1_i32_427 : BitVec 32 := 1#32
  let v551 : BitVec 32 := Scalar.andi v550 c1_i32_427
  let v552 : BitVec 32 := Scalar.xori v549 v551
  let c1_i32_429 : BitVec 32 := 1#32
  let v553 : BitVec 32 := Scalar.muli v552 c1_i32_429
  let v554 : BitVec 32 := Scalar.addi c0_i32_430 v553
  v554.toNat
def k0_dev15 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_452 : BitVec 32 := 4#32
  let v583 : BitVec 32 := Scalar.xori v5 c4_i32_452
  let c1_i32_453 : BitVec 32 := 1#32
  let v584 : BitVec 32 := Scalar.shrsi v583 c1_i32_453
  let c1_i32_454 : BitVec 32 := 1#32
  let v585 : BitVec 32 := Scalar.andi v584 c1_i32_454
  let v586 : BitVec 32 := Scalar.xori v583 v585
  let c1_i32_456 : BitVec 32 := 1#32
  let v587 : BitVec 32 := Scalar.muli v586 c1_i32_456
  let v588 : BitVec 32 := Scalar.addi c0_i32_457 v587
  v588.toNat
def k0_off14 (d0 : Dev nD) (c0_i32_472 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c2_i32
  let c1_i32_2 : BitVec 32 := 1#32
  let v7 : BitVec 32 := Scalar.andi v6 c1_i32_2
  let c704_i32_471 : BitVec 32 := 704#32
  let v605 : BitVec 32 := Scalar.muli v7 c704_i32_471
  let v606 : BitVec 32 := Scalar.addi c0_i32_472 v605
  let c0_i32_480 : BitVec 32 := 0#32
  ![v606.toNat, 0]
def k0_off14_at (r : Fin 2) : BitVec 32 × BitVec 32 :=
  if r.val < 1 then
    (0#32, 2#32)
  else
    (1408#32, 1#32)
def k0_dev16 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_473 : BitVec 32 := 4#32
  let v607 : BitVec 32 := Scalar.xori v5 c4_i32_473
  let c1_i32_474 : BitVec 32 := 1#32
  let v608 : BitVec 32 := Scalar.shrsi v607 c1_i32_474
  let c1_i32_475 : BitVec 32 := 1#32
  let v609 : BitVec 32 := Scalar.andi v608 c1_i32_475
  let v610 : BitVec 32 := Scalar.xori v607 v609
  let c1_i32_478 : BitVec 32 := 1#32
  let v611 : BitVec 32 := Scalar.muli v610 c1_i32_478
  let v612 : BitVec 32 := Scalar.addi c0_i32_479 v611
  v612.toNat
def k0_dev17 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_495 : BitVec 32 := 2#32
  let v631 : BitVec 32 := Scalar.xori v5 c2_i32_495
  let c1_i32_496 : BitVec 32 := 1#32
  let v632 : BitVec 32 := Scalar.shrsi v631 c1_i32_496
  let c1_i32_497 : BitVec 32 := 1#32
  let v633 : BitVec 32 := Scalar.andi v632 c1_i32_497
  let v634 : BitVec 32 := Scalar.xori v631 v633
  let c1_i32_499 : BitVec 32 := 1#32
  let v635 : BitVec 32 := Scalar.muli v634 c1_i32_499
  let v636 : BitVec 32 := Scalar.addi c0_i32_500 v635
  v636.toNat
def k0_off15 (d0 : Dev nD) : Fin 2 → Nat :=
  let c2816_i32_515 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_5 : BitVec 32 := 1#32
  let v10 : BitVec 32 := Scalar.andi v5 c1_i32_5
  let c640_i32_514 : BitVec 32 := 640#32
  let v653 : BitVec 32 := Scalar.muli v10 c640_i32_514
  let v654 : BitVec 32 := Scalar.addi c2816_i32_515 v653
  let c0_i32_522 : BitVec 32 := 0#32
  ![v654.toNat, 0]
def k0_dev18 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_516 : BitVec 32 := 1#32
  let v655 : BitVec 32 := Scalar.xori v5 c1_i32_516
  let c1_i32_517 : BitVec 32 := 1#32
  let v656 : BitVec 32 := Scalar.shrsi v655 c1_i32_517
  let c1_i32_518 : BitVec 32 := 1#32
  let v657 : BitVec 32 := Scalar.andi v656 c1_i32_518
  let v658 : BitVec 32 := Scalar.xori v655 v657
  let c1_i32_520 : BitVec 32 := 1#32
  let v659 : BitVec 32 := Scalar.muli v658 c1_i32_520
  let v660 : BitVec 32 := Scalar.addi c0_i32_521 v659
  v660.toNat
def k0_off16 (d0 : Dev nD) (c0_i32_558 : BitVec 32) (c2_i32 : BitVec 32) : Fin 2 → Nat :=
  let c1_i32_556 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v6 : BitVec 32 := Scalar.shrsi v5 c2_i32
  let c1_i32_2 : BitVec 32 := 1#32
  let v7 : BitVec 32 := Scalar.andi v6 c1_i32_2
  let v716 : BitVec 32 := Scalar.subi c1_i32_556 v7
  let c704_i32_557 : BitVec 32 := 704#32
  let v717 : BitVec 32 := Scalar.muli v716 c704_i32_557
  let v718 : BitVec 32 := Scalar.addi c0_i32_558 v717
  let v719 : Index := Scalar.indexCast v718
  let c0_559 : Index := 0#32
  ![v719.toNat, 0]
def k0_off16_at (r : Fin 2) : BitVec 32 × BitVec 32 :=
  if r.val < 1 then
    (0#32, 2#32)
  else
    (1408#32, 1#32)
def k0_off17 (d0 : Dev nD) : Fin 2 → Nat :=
  let c2816_i32_596 : BitVec 32 := 2816#32
  let c1_i32_594 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_5 : BitVec 32 := 1#32
  let v10 : BitVec 32 := Scalar.andi v5 c1_i32_5
  let v764 : BitVec 32 := Scalar.subi c1_i32_594 v10
  let c640_i32_595 : BitVec 32 := 640#32
  let v765 : BitVec 32 := Scalar.muli v764 c640_i32_595
  let v766 : BitVec 32 := Scalar.addi c2816_i32_596 v765
  let v767 : Index := Scalar.indexCast v766
  let c0_597 : Index := 0#32
  ![v767.toNat, 0]
abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x4096 : Shape := ⟨3, ![4, 1024, 4096]⟩
abbrev S4x4096 : Shape := ⟨2, ![4, 4096]⟩
abbrev S4096x512 : Shape := ⟨2, ![4096, 512]⟩
abbrev S_ : Shape := ⟨0, ![]⟩
abbrev S4x3x4096 : Shape := ⟨3, ![4, 3, 4096]⟩
abbrev S4x1027x4096 : Shape := ⟨3, ![4, 1027, 4096]⟩
abbrev S1x4096 : Shape := ⟨2, ![1, 4096]⟩
abbrev S4096 : Shape := ⟨1, ![4096]⟩
abbrev S1x1x4096 : Shape := ⟨3, ![1, 1, 4096]⟩
abbrev S4x1024x512 : Shape := ⟨3, ![4, 1024, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S4x4096, .f32⟩
  | .hbm, ⟨2, _⟩ => ⟨S4096x512, .f32⟩
  | .hbm, ⟨3, _⟩ => ⟨S_, .f32⟩
  | .hbm, ⟨4, _⟩ => ⟨S4x3x4096, .f32⟩
  | .hbm, ⟨5, _⟩ => ⟨S4x1027x4096, .f32⟩
  | .hbm, ⟨6, _⟩ => ⟨S_, .f32⟩
  | .hbm, ⟨7, _⟩ => ⟨S4x1024x4096, .f32⟩
  | .hbm, ⟨8, _⟩ => ⟨S4x1024x4096, .f32⟩
  | .hbm, ⟨9, _⟩ => ⟨S1x4096, .f32⟩
  | .hbm, ⟨10, _⟩ => ⟨S4096, .f32⟩
  | .hbm, ⟨11, _⟩ => ⟨S1x1x4096, .f32⟩
  | .hbm, ⟨12, _⟩ => ⟨S4x1024x4096, .f32⟩
  | .hbm, ⟨13, _⟩ => ⟨S4x1024x4096, .f32⟩
  | .hbm, ⟨14, _⟩ => ⟨S4x1024x4096, .f32⟩
  | .hbm, ⟨15, _⟩ => ⟨S4x1024x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S4x1024x4096, .f32⟩
  | .hbm, ⟨20, _⟩ => ⟨S4x1024x4096, .f32⟩
  | .hbm, ⟨21, _⟩ => ⟨S4x1024x4096, .f32⟩
  | .hbm, ⟨22, _⟩ => ⟨S4x1024x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S4x1024x4096, .f32⟩
  | .hbm, ⟨27, _⟩ => ⟨S4x1024x4096, .f32⟩
  | .hbm, ⟨28, _⟩ => ⟨S4x1024x4096, .f32⟩
  | .hbm, ⟨29, _⟩ => ⟨S4x1024x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S4x1024x4096, .f32⟩
  | .hbm, ⟨34, _⟩ => ⟨S4x1024x4096, .f32⟩
  | .hbm, ⟨35, _⟩ => ⟨S4x1024x4096, .f32⟩
  | .hbm, ⟨36, _⟩ => ⟨S4x1024x4096, .f32⟩
  | .hbm, ⟨37, _⟩ => ⟨S4x1024x4096, .f32⟩
  | .hbm, ⟨38, _⟩ => ⟨S_, .f32⟩
  | .hbm, ⟨39, _⟩ => ⟨S4x1024x4096, .f32⟩
  | .hbm, ⟨40, _⟩ => ⟨S4x1024x4096, .f32⟩
  | .hbm, ⟨41, _⟩ => ⟨S4x1024x4096, .f32⟩
  | .hbm, ⟨42, _⟩ => ⟨S4x1024x512, .f32⟩
  | .hbm, ⟨43, _⟩ => ⟨S4096x512, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Proof.Geo.lean ====
/-
# Places on the cube, row ranges, and the closed forms of the kernel's offsets and devices

The eight devices form a cube.  `gray c` is the device's place on it and `par μ c` the neighbour
across edge `μ`.  The rows of the result are cut in three parts; part `p` meets the three edges in
the order `ord p`.  In every part a device keeps one half (`kb`), and of that half one half
(`rb`); `ob` and `sb` are the halves it gives away.
-/
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.KProof

open Cert.KernelIdeal Cert.KernelIdeal.Gen
open Idealize.ShloMosaic

/-! ## The cube -/

def gray (c : Dev nD) : ℕ := c.val ^^^ ((c.val / 2) % 2)
theorem gray_lt (n : ℕ) (h : n < 8) : n ^^^ ((n / 2) % 2) < 8 := by
  revert n; decide
/-- The neighbour across edge `μ`. -/
def par (μ : Fin 3) (c : Dev nD) : Dev nD :=
  ⟨((gray c ^^^ 2 ^ μ.val) % 8) ^^^ ((((gray c ^^^ 2 ^ μ.val) % 8) / 2) % 2), gray_lt _ (Nat.mod_lt _ (by decide))⟩
/-- The place's bit along edge `μ`. -/
def bit (μ : Fin 3) (c : Dev nD) : ℕ := (gray c / 2 ^ μ.val) % 2

/-- The order in which part `p` meets the edges. -/
def ord : Fin 3 → Fin 3 → Fin 3
  | 0 => ![2, 1, 0] | 1 => ![1, 0, 2] | 2 => ![0, 2, 1]
/-- A part's first row and an eighth of its rows. -/
def Bs : Fin 3 → ℕ := ![0, 1408, 2816]
def Ks : Fin 3 → ℕ := ![176, 176, 160]

/-- The five exchanges of a part: which edge each crosses. -/
def edge (p : Fin 3) : Fin 5 → Fin 3
  | 0 => ord p 0 | 1 => ord p 1 | 2 => ord p 2 | 3 => ord p 1 | 4 => ord p 0
def peer (p : Fin 3) (s : Fin 5) (c : Dev nD) : Dev nD := par (edge p s) c
/-- How many rows each moves. -/
def cnt (p : Fin 3) : Fin 5 → ℕ
  | 0 => 4 * Ks p | 1 => 2 * Ks p | 2 => 2 * Ks p | 3 => 2 * Ks p | 4 => 4 * Ks p

def kb (p : Fin 3) (c : Dev nD) : ℕ := Bs p + bit (ord p 0) c * (4 * Ks p)
def ob (p : Fin 3) (c : Dev nD) : ℕ := Bs p + (1 - bit (ord p 0) c) * (4 * Ks p)
def rb (p : Fin 3) (c : Dev nD) : ℕ := kb p c + bit (ord p 1) c * (2 * Ks p)
def sb (p : Fin 3) (c : Dev nD) : ℕ := kb p c + (1 - bit (ord p 1) c) * (2 * Ks p)
/-- The landing rows of the first three exchanges. -/
def soff : Fin 3 → Fin 3 → ℕ
  | 0 => ![0, 704, 1056] | 1 => ![1408, 2112, 2464] | 2 => ![2816, 3456, 3776]

/-- The rows a sender sends from, and the rows a receiver receives into. -/
def slo (p : Fin 3) : Fin 5 → Dev nD → ℕ
  | 0 => ob p | 1 => sb p | 2 => rb p | 3 => rb p | 4 => kb p
def dlo (p : Fin 3) : Fin 5 → Dev nD → ℕ
  | 0 => fun _ => soff p 0 | 1 => fun _ => soff p 1 | 2 => fun _ => soff p 2 | 3 => sb p | 4 => ob p

theorem par_par (μ : Fin 3) (c : Dev nD) : par μ (par μ c) = c := by revert μ c; decide +kernel
theorem peer_peer (p : Fin 3) (s : Fin 5) (c : Dev nD) : peer p s (peer p s c) = c := par_par _ _
theorem par_ne (μ : Fin 3) (c : Dev nD) : par μ c ≠ c := by revert μ c; decide +kernel

theorem kb_lt (p : Fin 3) (c : Dev nD) : (kb p c = Bs p ∧ ob p c = Bs p + 4 * Ks p) ∨ (kb p c = Bs p + 4 * Ks p ∧ ob p c = Bs p) := by
  revert p c; decide +kernel
theorem rb_lt (p : Fin 3) (c : Dev nD) : (rb p c = kb p c ∧ sb p c = kb p c + 2 * Ks p) ∨ (rb p c = kb p c + 2 * Ks p ∧ sb p c = kb p c) := by
  revert p c; decide +kernel

theorem ob_peer0 (p : Fin 3) (c : Dev nD) : ob p (peer p 0 c) = kb p c := by revert p c; decide +kernel
theorem kb_peer0 (p : Fin 3) (c : Dev nD) : kb p (peer p 0 c) = ob p c := by revert p c; decide +kernel
theorem kb_peer1 (p : Fin 3) (c : Dev nD) : kb p (peer p 1 c) = kb p c := by revert p c; decide +kernel
theorem sb_peer1 (p : Fin 3) (c : Dev nD) : sb p (peer p 1 c) = rb p c := by revert p c; decide +kernel
theorem rb_peer1 (p : Fin 3) (c : Dev nD) : rb p (peer p 1 c) = sb p c := by revert p c; decide +kernel
theorem rb_peer2 (p : Fin 3) (c : Dev nD) : rb p (peer p 2 c) = rb p c := by revert p c; decide +kernel

/-! ## The kernel's offsets and devices -/

theorem dev1_eq (c : Dev nD) : (⟨k0_dev1 c, k0_dev1_lt c⟩ : Dev nD) = par 0 c := by revert c; decide +kernel
theorem dev2_eq (c : Dev nD) : (⟨k0_dev2 c, k0_dev2_lt c⟩ : Dev nD) = par 1 c := by revert c; decide +kernel
theorem dev3_eq (c : Dev nD) : (⟨k0_dev3 c, k0_dev3_lt c⟩ : Dev nD) = par 2 c := by revert c; decide +kernel
theorem dev4_eq (c : Dev nD) : (⟨k0_dev4 c, k0_dev4_lt c⟩ : Dev nD) = peer 0 0 c := by revert c; decide +kernel
theorem dev5_eq (c : Dev nD) : (⟨k0_dev5 c, k0_dev5_lt c⟩ : Dev nD) = peer 1 0 c := by revert c; decide +kernel
theorem dev6_eq (c : Dev nD) : (⟨k0_dev6 c, k0_dev6_lt c⟩ : Dev nD) = peer 2 0 c := by revert c; decide +kernel
theorem dev7_eq (c : Dev nD) : (⟨k0_dev7 c, k0_dev7_lt c⟩ : Dev nD) = peer 0 1 c := by revert c; decide +kernel
theorem dev8_eq (c : Dev nD) : (⟨k0_dev8 c, k0_dev8_lt c⟩ : Dev nD) = peer 1 1 c := by revert c; decide +kernel
theorem dev9_eq (c : Dev nD) : (⟨k0_dev9 c, k0_dev9_lt c⟩ : Dev nD) = peer 2 1 c := by revert c; decide +kernel
theorem dev10_eq (c : Dev nD) : (⟨k0_dev10 c, k0_dev10_lt c⟩ : Dev nD) = peer 0 2 c := by revert c; decide +kernel
theorem dev11_eq (c : Dev nD) : (⟨k0_dev11 c, k0_dev11_lt c⟩ : Dev nD) = peer 1 2 c := by revert c; decide +kernel
theorem dev12_eq (c : Dev nD) : (⟨k0_dev12 c, k0_dev12_lt c⟩ : Dev nD) = peer 2 2 c := by revert c; decide +kernel
theorem dev13_eq (c : Dev nD) : (⟨k0_dev13 c, k0_dev13_lt c⟩ : Dev nD) = peer 0 3 c := by revert c; decide +kernel
theorem dev14_eq (c : Dev nD) : (⟨k0_dev14 c, k0_dev14_lt c⟩ : Dev nD) = peer 1 3 c := by revert c; decide +kernel
theorem dev15_eq (c : Dev nD) : (⟨k0_dev15 c, k0_dev15_lt c⟩ : Dev nD) = peer 2 3 c := by revert c; decide +kernel
theorem dev16_eq (c : Dev nD) : (⟨k0_dev16 c, k0_dev16_lt c⟩ : Dev nD) = peer 0 4 c := by revert c; decide +kernel
theorem dev17_eq (c : Dev nD) : (⟨k0_dev17 c, k0_dev17_lt c⟩ : Dev nD) = peer 1 4 c := by revert c; decide +kernel
theorem dev18_eq (c : Dev nD) : (⟨k0_dev18 c, k0_dev18_lt c⟩ : Dev nD) = peer 2 4 c := by revert c; decide +kernel

theorem off1_eq0 (c : Dev nD) : k0_off1 c 0#32 2#32 = ![ob 0 c, 0] := by revert c; decide +kernel
theorem off1_eq1 (c : Dev nD) : k0_off1 c 1408#32 1#32 = ![ob 1 c, 0] := by revert c; decide +kernel
theorem off2_eq (c : Dev nD) : k0_off2 c = ![ob 2 c, 0] := by revert c; decide +kernel
theorem off3_eq0 (c : Dev nD) : k0_off3 c 0#32 2#32 = ![kb 0 c, 0] := by revert c; decide +kernel
theorem off3_eq1 (c : Dev nD) : k0_off3 c 1408#32 1#32 = ![kb 1 c, 0] := by revert c; decide +kernel
theorem off4_eq (c : Dev nD) : k0_off4 c = ![sb 0 c, 0] := by revert c; decide +kernel
theorem off5_eq (c : Dev nD) : k0_off5 c = ![sb 1 c, 0] := by revert c; decide +kernel
theorem off6_eq (c : Dev nD) : k0_off6 c = ![kb 2 c, 0] := by revert c; decide +kernel
theorem off7_eq (c : Dev nD) : k0_off7 c = ![sb 2 c, 0] := by revert c; decide +kernel
theorem off8_eq (c : Dev nD) : k0_off8 c = ![rb 0 c, 0] := by revert c; decide +kernel
theorem off9_eq (c : Dev nD) : k0_off9 c = ![rb 0 c, 0] := by revert c; decide +kernel
theorem off10_eq (c : Dev nD) : k0_off10 c = ![rb 1 c, 0] := by revert c; decide +kernel
theorem off11_eq (c : Dev nD) : k0_off11 c = ![rb 1 c, 0] := by revert c; decide +kernel
theorem off12_eq (c : Dev nD) : k0_off12 c = ![rb 2 c, 0] := by revert c; decide +kernel
theorem off13_eq (c : Dev nD) : k0_off13 c = ![rb 2 c, 0] := by revert c; decide +kernel
theorem off14_eq0 (c : Dev nD) : k0_off14 c 0#32 2#32 = ![kb 0 c, 0] := by revert c; decide +kernel
theorem off14_eq1 (c : Dev nD) : k0_off14 c 1408#32 1#32 = ![kb 1 c, 0] := by revert c; decide +kernel
theorem off15_eq (c : Dev nD) : k0_off15 c = ![kb 2 c, 0] := by revert c; decide +kernel
theorem off16_eq0 (c : Dev nD) : k0_off16 c 0#32 2#32 = ![ob 0 c, 0] := by revert c; decide +kernel
theorem off16_eq1 (c : Dev nD) : k0_off16 c 1408#32 1#32 = ![ob 1 c, 0] := by revert c; decide +kernel
theorem off17_eq (c : Dev nD) : k0_off17 c = ![ob 2 c, 0] := by revert c; decide +kernel

/-! ## Row ranges -/

abbrev Sn (n : ℕ) : Shape := ⟨2, ![n, 512]⟩

/-- The element of row `i`, lane `k`. -/
def ix (i : ℕ) (k : Fin 512) : S4096x512.Idx := Fin.cons (⟨i % 4096, Nat.mod_lt _ (by decide)⟩ : Fin 4096) (Fin.cons k finZeroElim)
/-- The same in a block of `n` rows. -/
def jx {n : ℕ} (j : Fin n) (k : Fin 512) : (Sn n).Idx := Fin.cons j (Fin.cons k finZeroElim)

theorem idx_ext {i i' : S4096x512.Idx} (h0 : (i 0).val = (i' 0).val) (h1 : (i 1).val = (i' 1).val) : i = i' := by
  funext a
  match a with
  | ⟨0, _⟩ => exact Fin.ext h0
  | ⟨1, _⟩ => exact Fin.ext h1

theorem ix_self (i : S4096x512.Idx) : ix (i 0).val (i 1) = i :=
  idx_ext (Nat.mod_eq_of_lt (i 0).isLt) rfl

theorem jx_self {n : ℕ} (x : (Sn n).Idx) : jx (x 0) (x 1) = x := by
  funext a
  match a with
  | ⟨0, _⟩ => rfl
  | ⟨1, _⟩ => rfl

/-- Rows `[lo, lo + n)`. -/
def rows (lo n : ℕ) : Finset S4096x512.Idx := Finset.univ.filter fun i => lo ≤ (i 0).val ∧ (i 0).val < lo + n

theorem mem_rows {lo n : ℕ} {i : S4096x512.Idx} : i ∈ rows lo n ↔ lo ≤ (i 0).val ∧ (i 0).val < lo + n := by
  simp [rows]

theorem rows_all : rows 0 4096 = Finset.univ := by
  ext i; simp only [mem_rows, Finset.mem_univ, iff_true]
  exact ⟨Nat.zero_le _, by simpa using (i 0).isLt⟩

theorem rows_disjoint {a n b k : ℕ} (h : a + n ≤ b ∨ b + k ≤ a) : Disjoint (rows a n) (rows b k) := by
  rw [Finset.disjoint_left]; intro i h1 h2
  rw [mem_rows] at h1 h2; omega

theorem rows_union {lo n a b k l : ℕ} (h : (a = lo ∧ b = lo + k) ∨ (b = lo ∧ a = lo + l)) (hn : n = k + l) :
    rows lo n = rows a k ∪ rows b l := by
  ext i; simp only [Finset.mem_union, mem_rows]; omega

theorem rows_subset {a n b k : ℕ} (h : b ≤ a ∧ a + n ≤ b + k) : rows a n ⊆ rows b k := by
  intro i; simp only [mem_rows]; omega

theorem set_rows {off : Fin 2 → ℕ} {lo n : ℕ} (inb : ∀ a, off a + (Sn n).size a ≤ S4096x512.size a) (h : off = ![lo, 0]) :
    (Rect.unit (s := S4096x512) off (Sn n).size inb).set = rows lo n := by
  subst h
  ext i
  rw [Rect.mem_set_unit, mem_rows]
  constructor
  · intro hi; exact hi 0
  · intro hi a
    match a with
    | ⟨0, _⟩ => exact hi
    | ⟨1, _⟩ => exact ⟨Nat.zero_le _, by simpa using (i 1).isLt⟩

theorem emb_jx {off : Fin 2 → ℕ} {lo n : ℕ} (inb : ∀ a, off a + (Sn n).size a ≤ S4096x512.size a) (h : off = ![lo, 0]) (j : Fin n) (k : Fin 512) :
    (Rect.unit (s := S4096x512) off (Sn n).size inb).emb (jx j k) = ix (lo + j.val) k := by
  subst h
  have hb : lo + n ≤ 4096 := inb 0
  refine idx_ext ?_ ?_
  · show lo + 1 * j.val = (lo + j.val) % 4096
    rw [Nat.mod_eq_of_lt (by have := j.isLt; omega)]; omega
  · show 0 + 1 * k.val = k.val; omega

theorem ix_of_mem {lo n : ℕ} {i : S4096x512.Idx} (h : i ∈ rows lo n) : ∃ j : Fin n, i = ix (lo + j.val) (i 1) := by
  rw [mem_rows] at h
  refine ⟨⟨(i 0).val - lo, by omega⟩, ?_⟩
  conv_lhs => rw [← ix_self i]
  congr 1; simp only; omega

theorem ix_mem {lo n : ℕ} (hb : lo + n ≤ 4096) (j : Fin n) (k : Fin 512) : ix (lo + j.val) k ∈ rows lo n := by
  rw [mem_rows]
  show lo ≤ (lo + j.val) % 4096 ∧ (lo + j.val) % 4096 < lo + n
  rw [Nat.mod_eq_of_lt (by have := j.isLt; omega)]; have := j.isLt; omega

end Cert.KProof
-- ==== Proof.Sched.lean ====
/-
# The exchange's contents, cells and schedule

Every device's partial product `Pc` is summed over the cube in three exchanges (`A1`, `A2`, `A3`),
each halving the rows a device keeps; two more exchanges send the sums back (`OH`, `OB`).
Each of the fifteen transfers of a device has a send cell and a receive cell of one round, and the
barrier cell has one round of three duties, one per edge of the cube.
-/
module

public import proofs.«01_k».proof.Proof.Geo
public import Idealize.ShloMosaic.Lib.Pipeline.Launch
public import Idealize.ShloMosaic.Lib.Pipeline.Kit
public import Idealize.ShloMosaic.Lib.Tactic
public import Idealize.ShloMosaic.Lib.Transfers

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

abbrev CB : Type := S4096x512.Idx → Elt F .bf16
abbrev CF : Type := S4096x512.Idx → Elt F .f32

/-- A device's blocks of the three arguments. -/
def xarr (c : Dev nD) : S4x1024x512.Idx → Elt F .f32 := m ((c : Thread nD τ).loc main_arg0)
def karr (c : Dev nD) : S4x512.Idx → Elt F .f32 := m ((c : Thread nD τ).loc main_arg1)
def warr (c : Dev nD) : S512x512.Idx → Elt F .f32 := m ((c : Thread nD τ).loc main_arg2)

def ix3 (b : Fin 4) (r : ℕ) (k : Fin 512) : S4x1024x512.Idx :=
  Fin.cons b (Fin.cons (⟨r % 1024, Nat.mod_lt _ (by decide)⟩ : Fin 1024) (Fin.cons k finZeroElim))
def ik (t : Fin 4) (k : Fin 512) : S4x512.Idx := Fin.cons t (Fin.cons k finZeroElim)

/-- Batch `b` after eight rows of zeros. -/
def xpad (c : Dev nD) (b : Fin 4) (r : ℕ) (k : Fin 512) : Elt F .f32 :=
  if r < 8 then Scalar.ofBits .f32 0x00000000#32 else xarr m c (ix3 b (r - 8) k)
/-- The 1024 rows of it from row `o`, and row `t` of the taps. -/
def xv (c : Dev nD) (b : Fin 4) (o : ℕ) : Vec F S1x1024x512 .f32 := fun y => xpad m c b (o + (y 1).val) (y 2)
def kv (c : Dev nD) (t : Fin 4) : Vec F S1x512 .f32 := fun y => karr m c (ik t (y 1))

/-- A batch's partial product. -/
def blk (c : Dev nD) (b : Fin 4) : Vec F S1024x512 .bf16 :=
  k0_pay5 (k0_pay4 (k0_pay1 (warr m c)) (xv m c b 8) (kv m c 3) (xv m c b 5) (kv m c 0) (xv m c b 6) (kv m c 1) (xv m c b 7) (kv m c 2))
/-- The device's partial product, all four batches. -/
def Pc (c : Dev nD) : CB (F := F) := fun i =>
  blk m c ⟨(i 0).val / 1024, by have := (i 0).isLt; exact Nat.div_lt_of_lt_mul (by simpa using this)⟩
    (jx (n := 1024) ⟨(i 0).val % 1024, Nat.mod_lt _ (by decide)⟩ (i 1))

def addE (a b : Elt F .bf16) : Elt F .bf16 := FloatOps.addf (F := F) (φ := .bf16) a b
def extE (a : Elt F .bf16) : Elt F .f32 := extf (s := S4096x512) .f32 (fun _ => a) bitsLt_bf16_f32 (ix 0 0)

def A1 (p : Fin 3) (c : Dev nD) : CB (F := F) := fun i => addE (Pc m c i) (Pc m (peer p 0 c) i)
def A2 (p : Fin 3) (c : Dev nD) : CB (F := F) := fun i => addE (A1 m p c i) (A1 m p (peer p 1 c) i)
def A3 (p : Fin 3) (c : Dev nD) : CB (F := F) := fun i => addE (A2 m p c i) (A2 m p (peer p 2 c) i)
/-- The half a device keeps, summed over the cube. -/
def OH (p : Fin 3) (c : Dev nD) : CB (F := F) := fun i => if i ∈ rows (rb p c) (2 * Ks p) then A3 m p c i else A3 m p (peer p 1 c) i
/-- A whole part. -/
def OB (p : Fin 3) (c : Dev nD) : CB (F := F) := fun i => if i ∈ rows (kb p c) (4 * Ks p) then OH m p c i else OH m p (peer p 0 c) i
/-- The part a row belongs to. -/
def partOf (i : S4096x512.Idx) : Fin 3 := if (i 0).val < 1408 then 0 else if (i 0).val < 2816 then 1 else 2
/-- The result on device `c`. -/
def OUT (c : Dev nD) : CF (F := F) := fun i => extE (OB m (partOf i) c i)

/-! ## Semaphores and cells -/

abbrev barS : Sem sig := (SemArray.scalar (sig.barrier 0 rfl) : Sems sig S_).sem
def sendS (p : Fin 3) (s : Fin 5) : DmaSem sig := ⟨10 + 6 * p.val + s.val, by have := p.isLt; have := s.isLt; show _ < 46; omega⟩
def recvS (p : Fin 3) (s : Fin 5) : DmaSem sig := ⟨28 + 6 * p.val + s.val, by have := p.isLt; have := s.isLt; show _ < 46; omega⟩

/-- A device's cells: the barrier, and per transfer a send (`false`) and a receive (`true`) cell. -/
abbrev CI : Type := Option (Bool × Fin 3 × Fin 5)
def csem : CI → SemLoc sig
  | none => .reg barS
  | some (false, p, s) => .dma (sendS p s)
  | some (true, p, s) => .dma (recvS p s)
/-- Which of them a semaphore is. -/
def dec : SemLoc sig → Option CI
  | .reg _ => some none
  | .dma q =>
    if h : 10 ≤ q.val ∧ q.val < 28 ∧ (q.val - 10) % 6 < 5 then
      some (some (false, ⟨(q.val - 10) / 6, by omega⟩, ⟨(q.val - 10) % 6, h.2.2⟩))
    else if h : 28 ≤ q.val ∧ q.val < 46 ∧ (q.val - 28) % 6 < 5 then
      some (some (true, ⟨(q.val - 28) / 6, by omega⟩, ⟨(q.val - 28) % 6, h.2.2⟩))
    else none

theorem dec_csem (i : CI) : dec (csem i) = some i := by revert i; decide +kernel
theorem csem_injective : Function.Injective csem := fun a b h => by
  have := (dec_csem a).symm.trans ((congrArg dec h).trans (dec_csem b)); exact Option.some.inj this

abbrev kcell (c : Dev nD) (i : CI) : GSem nD τ sig := ((c : Thread nD τ), csem i)
abbrev barCell (c : Dev nD) : GSem nD τ sig := ((c : Thread nD τ), .reg barS)
abbrev sendCell (p : Fin 3) (s : Fin 5) (c : Dev nD) : GSem nD τ sig := ((c : Thread nD τ), .dma (sendS p s))
abbrev recvCell (p : Fin 3) (s : Fin 5) (c : Dev nD) : GSem nD τ sig := ((c : Thread nD τ), .dma (recvS p s))

/-- A transfer's credit: rows of 512 at two bytes. -/
abbrev credOf (n : ℕ) : ℕ := (Memref.whole cc0_scratch2 : Memref sig .tc _ _ _).view.ref.dmaCredit (Sn n) .bf16
def crd (p : Fin 3) (s : Fin 5) : ℕ := credOf (cnt p s)

theorem cnt_pos (p : Fin 3) (s : Fin 5) : 0 < cnt p s := by revert p s; decide
theorem crd_pos (p : Fin 3) (s : Fin 5) : 0 < crd p s :=
  sig.dmaCredit_pos _ _ _ _ _ (by
    have h1 : 0 < (Sn (cnt p s)).size 1 := Nat.succ_pos 511
    unfold Shape.numel; rw [Fin.prod_univ_two]; exact Nat.mul_pos (cnt_pos p s) h1)

/-! ## Payloads -/

abbrev pt (b : Ref sig .tc) (c : Dev nD) (S : Finset b.ty.Idx) (q : PosShare TreeShare) (f : b.ty.Contents (Elt F)) : sProp 𝕄 :=
  ((c : Thread nD τ).loc b) ↦[S]{q} f

/-- The rows landed hold the sender's, moved. -/
def Lands (f : CB (F := F)) (dst n : ℕ) (g : CB (F := F)) (src : ℕ) : Prop :=
  ∀ (j : Fin n) (k : Fin 512), f (ix (dst + j.val) k) = g (ix (src + j.val) k)

/-- What `c` sends and what it receives in exchange `s` of part `p`. -/
def sendPay (p : Fin 3) (s : Fin 5) (c : Dev nD) : sProp 𝕄 :=
  match s with
  | 0 => pt cc0_scratch1 c (rows (ob p c) (4 * Ks p)) fullShare (Pc m c)
  | 1 => iprop(emp)
  | 2 => pt cc0_scratch2 c (rows (rb p c) (2 * Ks p)) fullShare (A2 m p c)
  | 3 => pt cc0_scratch2 c (rows (rb p c) (2 * Ks p)) fullShare (A3 m p c)
  | 4 => pt cc0_scratch2 c (rows (kb p c) (4 * Ks p)) fullShare.left (OH m p c)
def recvPay (p : Fin 3) (s : Fin 5) (c : Dev nD) : sProp 𝕄 :=
  match s with
  | 0 => iprop(∃ f : CB (F := F), ⌜Lands f (soff p 0) (4 * Ks p) (Pc m (peer p 0 c)) (kb p c)⌝ ∗ pt cc0_scratch3 c (rows (soff p 0) (4 * Ks p)) fullShare f)
  | 1 => iprop((∃ f : CB (F := F), ⌜Lands f (soff p 1) (2 * Ks p) (A1 m p (peer p 1 c)) (rb p c)⌝ ∗ pt cc0_scratch3 c (rows (soff p 1) (2 * Ks p)) fullShare f)
      ∗ (∃ f : CB (F := F), pt cc0_scratch2 (peer p 1 c) (rows (rb p c) (2 * Ks p)) fullShare f))
  | 2 => iprop(∃ f : CB (F := F), ⌜Lands f (soff p 2) (2 * Ks p) (A2 m p (peer p 2 c)) (rb p c)⌝ ∗ pt cc0_scratch3 c (rows (soff p 2) (2 * Ks p)) fullShare f)
  | 3 => pt cc0_scratch2 c (rows (sb p c) (2 * Ks p)) fullShare (A3 m p (peer p 1 c))
  | 4 => pt cc0_scratch2 c (rows (ob p c) (4 * Ks p)) fullShare (OH m p (peer p 0 c))

/-- A landing area, and the half given away, of device `c`: at any contents. -/
def land (p : Fin 3) (s : Fin 3) (n : ℕ) (c : Dev nD) : sProp 𝕄 := iprop(∃ f : CB (F := F), pt cc0_scratch3 c (rows (soff p s) n) fullShare f)
def away (p : Fin 3) (c : Dev nD) : sProp 𝕄 := iprop(∃ f : CB (F := F), pt cc0_scratch2 c (rows (ob p c) (4 * Ks p)) fullShare f)

/-- What device `d`'s signal across edge `μ` hands over: its landing areas and its half that cross that edge. -/
def give (μ : Fin 3) (d : Dev nD) : sProp 𝕄 :=
  match μ with
  | 0 => iprop(land (F := F) 0 2 (2 * Ks 0) d ∗ land (F := F) 1 1 (2 * Ks 1) d ∗ land (F := F) 2 0 (4 * Ks 2) d ∗ away (F := F) 2 d)
  | 1 => iprop(land (F := F) 0 1 (2 * Ks 0) d ∗ land (F := F) 1 0 (4 * Ks 1) d ∗ land (F := F) 2 2 (2 * Ks 2) d ∗ away (F := F) 1 d)
  | 2 => iprop(land (F := F) 0 0 (4 * Ks 0) d ∗ land (F := F) 1 2 (2 * Ks 1) d ∗ land (F := F) 2 1 (2 * Ks 2) d ∗ away (F := F) 0 d)
def barPay (μ : Fin 3) (c : Dev nD) : sProp 𝕄 := give (F := F) μ (par μ c)

instance give_storable (μ : Fin 3) (d : Dev nD) : BI.Storable (upEmb : UEmb _ 𝕄) (give (F := F) μ d) := by
  unfold give land away; split <;> infer_instance
instance sendPay_storable (p : Fin 3) (s : Fin 5) (c : Dev nD) : BI.Storable (upEmb : UEmb _ 𝕄) (sendPay m p s c) := by
  unfold sendPay; split <;> infer_instance
instance recvPay_storable (p : Fin 3) (s : Fin 5) (c : Dev nD) : BI.Storable (upEmb : UEmb _ 𝕄) (recvPay m p s c) := by
  unfold recvPay; split <;> infer_instance

/-! ## The schedule -/

def payAt (o : Option CI) (d : Fin 3) (c : Dev nD) : sProp 𝕄 :=
  match o with
  | none => iprop(emp)
  | some none => barPay (F := F) d c
  | some (some (false, p, s)) => sendPay m p s c
  | some (some (true, p, s)) => recvPay m p s c
def amtAt : Option CI → ℕ
  | some (some (_, p, s)) => crd p s
  | _ => 1
def dutAt : Option CI → Finset (Fin 3)
  | none => ∅
  | some none => Finset.univ
  | some (some _) => {0}

theorem amtAt_pos (o : Option CI) : 0 < amtAt o := by
  unfold amtAt; split
  · exact crd_pos _ _
  · exact Nat.one_pos

def Rd : Rounds.Schedule (GSem nD τ sig) (Fin 3) 𝕄 where
  duties g r := if r = 0 ∧ g.1.2 = .tc then dutAt (dec g.2) else ∅
  unitless _ := False
  amount g _ _ := amtAt (dec g.2)
  payload g _ d := payAt m (dec g.2) d g.1.1
  amount_pos g _ _ _ := amtAt_pos _

instance Rd_payload_storable (g : GSem nD τ sig) (r : ℕ) (d : Fin 3) :
    BI.Storable (upEmb : UEmb _ 𝕄) ((Rd (F := F) m).payload g r d) := by
  show BI.Storable upEmb (payAt m (dec g.2) d g.1.1)
  unfold payAt barPay
  split <;> infer_instance

section Sched
variable (c : Dev nD) (p : Fin 3) (s : Fin 5)

theorem dec_bar : dec (.reg barS) = some none := rfl
theorem dec_send : dec (.dma (sendS p s)) = some (some (false, p, s)) := dec_csem (some (false, p, s))
theorem dec_recv : dec (.dma (recvS p s)) = some (some (true, p, s)) := dec_csem (some (true, p, s))

theorem duties_bar : (Rd (F := F) m).duties (barCell c) 0 = Finset.univ := by
  dsimp only [Rd]; rw [dec_bar]; exact if_pos ⟨rfl, rfl⟩
theorem duties_send : (Rd (F := F) m).duties (sendCell p s c) 0 = {0} := by
  dsimp only [Rd]; rw [dec_send]; exact if_pos ⟨rfl, rfl⟩
theorem duties_recv : (Rd (F := F) m).duties (recvCell p s c) 0 = {0} := by
  dsimp only [Rd]; rw [dec_recv]; exact if_pos ⟨rfl, rfl⟩
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := rfl
theorem amount_send (d : Fin 3) : (Rd (F := F) m).amount (sendCell p s c) 0 d = crd p s := by dsimp only [Rd]; rw [dec_send]; rfl
theorem amount_recv (d : Fin 3) : (Rd (F := F) m).amount (recvCell p s c) 0 d = crd p s := by dsimp only [Rd]; rw [dec_recv]; rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell p s c) 0 = crd p s := by
  unfold Schedule.expect Schedule.amountOf; rw [duties_send, Finset.sum_singleton, amount_send]
theorem expect_recv : (Rd (F := F) m).expect (recvCell p s c) 0 = crd p s := by
  unfold Schedule.expect Schedule.amountOf; rw [duties_recv, Finset.sum_singleton, amount_recv]

theorem payload_bar (d : Fin 3) : (Rd (F := F) m).payload (barCell c) 0 d = barPay (F := F) d c := rfl
theorem payload_send (d : Fin 3) : (Rd (F := F) m).payload (sendCell p s c) 0 d = sendPay m p s c := by dsimp only [Rd]; rw [dec_send]; rfl
theorem payload_recv (d : Fin 3) : (Rd (F := F) m).payload (recvCell p s c) 0 d = recvPay m p s c := by dsimp only [Rd]; rw [dec_recv]; rfl

theorem rest_bar : bigSep ((Rd (F := F) m).duties (barCell c) 0 \ ∅) (fun d => (Rd (F := F) m).payload (barCell c) 0 d)
    = iprop(barPay (F := F) 0 c ∗ barPay (F := F) 1 c ∗ barPay (F := F) 2 c) := by
  rw [Finset.sdiff_empty, duties_bar, bigSep_univ_eq_bigSepL [0, 1, 2] (by decide) (by decide), bigSepL_cons_cons, bigSepL_cons_cons, bigSepL_singleton]
  rfl
theorem rest_send : bigSep ((Rd (F := F) m).duties (sendCell p s c) 0 \ ∅) (fun d => (Rd (F := F) m).payload (sendCell p s c) 0 d) = sendPay m p s c := by
  rw [Finset.sdiff_empty, duties_send, bigSep_singleton, payload_send]
theorem rest_recv : bigSep ((Rd (F := F) m).duties (recvCell p s c) 0 \ ∅) (fun d => (Rd (F := F) m).payload (recvCell p s c) 0 d) = recvPay m p s c := by
  rw [Finset.sdiff_empty, duties_recv, bigSep_singleton, payload_recv]

end Sched

/-! ## What a device owes at launch; the levels -/

def debt (l : List (GSem nD τ sig × ℕ)) : CellTallies nD τ sig Unit := l.foldr (fun x O => O + tallyAt x.1 () x.2) 0

theorem debt_cons (x : GSem nD τ sig × ℕ) (l : List (GSem nD τ sig × ℕ)) : debt (x :: l) = debt l + tallyAt x.1 () x.2 := rfl
theorem debt_nil : debt [] = 0 := rfl

theorem debt_pos {l : List (GSem nD τ sig × ℕ)} {g : GSem nD τ sig} {u : Unit} (h : 0 < debt l g u) : ∃ x ∈ l, x.1 = g := by
  induction l with
  | nil => exact absurd h (Nat.lt_irrefl 0)
  | cons x l ih =>
    rw [debt_cons, Pi.add_apply, Finsupp.add_apply, tallyAt_apply] at h
    by_cases hx : g = x.1 ∧ u = ()
    · exact ⟨x, List.mem_cons_self, hx.1.symm⟩
    · rw [if_neg hx, Nat.add_zero] at h
      obtain ⟨y, hy, e⟩ := ih h
      exact ⟨y, List.mem_cons_of_mem _ hy, e⟩

/-- The credit owed to the peer's receive cell of exchange `s` of part `p`. -/
abbrev dR (c : Dev nD) (p : Fin 3) (s : Fin 5) : GSem nD τ sig × ℕ := (recvCell p s (peer p s c), crd p s)
abbrev dB (c : Dev nD) (μ : Fin 3) : GSem nD τ sig × ℕ := (barCell (par μ c), 1)
/-- The transfers in the order the program starts them. -/
def xfers : List (Fin 3 × Fin 5) :=
  [(0, 0), (1, 0), (2, 0), (0, 1), (1, 1), (2, 1), (0, 2), (1, 2), (2, 2), (0, 3), (1, 3), (2, 3), (0, 4), (1, 4), (2, 4)]
/-- What is still owed once the first `n` have started. -/
def owedR (c : Dev nD) (n : ℕ) : List (GSem nD τ sig × ℕ) := (xfers.drop n).map fun x => dR c x.1 x.2
def O₀ (c : Dev nD) : CellTallies nD τ sig Unit := debt (dB c 0 :: dB c 1 :: dB c 2 :: owedR c 0)

def L (g : GSem nD τ sig) : Finset Unit := if g.1.2 = .tc then {()} else ∅
/-- The barrier at 1, the receive cells of exchange `s` at `s + 2`, everything else at 0. -/
def lvl : SemLoc sig → ℕ := fun sm => match dec sm with
  | some none => 1
  | some (some (true, _, s)) => s.val + 2
  | _ => 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- A device may wait on a cell below everything it owes. -/
theorem mayWait (c : Dev nD) (sm : SemLoc sig) (l : List (GSem nD τ sig × ℕ))
    (h : ∀ x ∈ l, x.1.1.2 = .tc ∧ lvl sm < lvl x.1.2) :
    (levAts L lv : sProp 𝕄) ⊢ MayWait (c : Thread nD τ) sm () (debt l) :=
  MayOwe.of_cut (L := L) (lev := lv) (lvl sm)
    (fun p hp => by rw [Finset.mem_singleton.mp hp, L_tc]; exact Finset.mem_singleton_self _)
    (fun g u hg => by obtain ⟨x, hx, rfl⟩ := debt_pos hg; show u ∈ L x.1; rw [L, if_pos (h x hx).1]; exact Finset.mem_singleton_self _)
    (fun p hp => by rw [Finset.mem_singleton.mp hp]; exact le_refl _)
    (fun g u hg => by obtain ⟨x, hx, rfl⟩ := debt_pos hg; exact (h x hx).2)

theorem lvl_recv (p : Fin 3) (s : Fin 5) : lvl (.dma (recvS p s)) = s.val + 2 := by unfold lvl; rw [dec_recv]
theorem lvl_send (p : Fin 3) (s : Fin 5) : lvl (.dma (sendS p s)) = 0 := by unfold lvl; rw [dec_send]
theorem lvl_bar : lvl (.reg barS) = 1 := rfl

theorem owedR_lvl (c : Dev nD) (n k : ℕ) (hk : ∀ x ∈ xfers.drop n, k < x.2.val + 2) :
    ∀ x ∈ owedR c n, x.1.1.2 = .tc ∧ k < lvl x.1.2 := by
  intro x hx
  obtain ⟨y, hy, rfl⟩ := List.mem_map.mp hx
  exact ⟨rfl, by show k < lvl (.dma (recvS y.1 y.2)); rw [lvl_recv]; exact hk y hy⟩

theorem mayWait_owed (c : Dev nD) (sm : SemLoc sig) (n : ℕ) (h : ∀ x ∈ xfers.drop n, lvl sm < x.2.val + 2) :
    (levAts L lv : sProp 𝕄) ⊢ MayWait (c : Thread nD τ) sm () (debt (owedR c n)) :=
  mayWait c sm _ (owedR_lvl c n _ h)

end Cert.KProof
-- ==== Proof.Steps.lean ====
/-
# One step of the body, for any transfer

The rules for the exchange's operations, each stated once over the part `p` and the exchange `s`:
starting a transfer, waiting for it to leave, waiting for one to land, adding what landed, and
copying a block of the result out.
-/
module

public import proofs.«01_k».proof.Proof.Sched

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

abbrev 𝒱₀ : Variants := Variants.none

/-- A program's weakest precondition on core `c`. -/
abbrev WPc (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## What every step may use -/

def env : sProp 𝕄 :=
  iprop((bigSep Finset.univ fun x : Dev nD × CI => iprop(cellInv ER (Rd (F := F) m) (K x) (kcell x.1 x.2) ∗ reached ER (kcell x.1 x.2) 0)) ∗ levAts L lv)
instance env_persistent : BI.Persistent (env m K) := by unfold env; infer_instance

theorem env_inv (c : Dev nD) (i : CI) : env m K ⊢ iprop(cellInv ER (Rd (F := F) m) (K (c, i)) (kcell c i) ∗ reached ER (kcell c i) 0) := by
  unfold env
  have h : (bigSep Finset.univ fun x : Dev nD × CI => (iprop(cellInv ER (Rd (F := F) m) (K x) (kcell x.1 x.2) ∗ reached ER (kcell x.1 x.2) 0) : sProp 𝕄))
      ⊢ iprop(cellInv ER (Rd (F := F) m) (K (c, i)) (kcell c i) ∗ reached ER (kcell c i) 0) :=
    bigSep_elim (Finset.mem_univ ((c, i) : Dev nD × CI))
  iintro ⟨H, -⟩
  iapply h
  iexact H
theorem env_lev : env m K ⊢ levAts L lv := by
  unfold env
  iintro ⟨-, H⟩
  iexact H

/-- What is still owed after `n` transfers have started. -/
def ow (c : Dev nD) (n : ℕ) : sProp 𝕄 := iprop(∃ W, owes (c : Thread nD τ) (debt (owedR c n)) W)
/-- The right to start a transfer; to wait for it to leave; to wait for one to land. -/
def trT (p : Fin 3) (s : Fin 5) (c : Dev nD) : sProp 𝕄 := iprop(dutyTok ER (sendCell p s c) 0 (0 : Fin 3) ∗ dutyTok ER (recvCell p s (peer p s c)) 0 (0 : Fin 3))
def trA (p : Fin 3) (s : Fin 5) (c : Dev nD) : sProp 𝕄 := atPos ER (sendCell p s c) 0 (∅ : Finset (Fin 3)) 0
def trS (p : Fin 3) (s : Fin 5) (c : Dev nD) : sProp 𝕄 := iprop(trA (F := F) p s c ∗ cred (tallyAt (sendCell p s c) () (crd p s)))
def trR (p : Fin 3) (s : Fin 5) (c : Dev nD) : sProp 𝕄 := iprop(atPos ER (recvCell p s c) 0 (∅ : Finset (Fin 3)) 0 ∗ cred (tallyAt (recvCell p s c) () (crd p s)))

/-! ## Starting a transfer -/

theorem send_core (c n : Dev nD) (p : Fin 3) (s : Fin 5) (i : ℕ) (hn : n = peer p s c) (hi : owedR c i = dR c p s :: owedR c (i + 1))
    {N : ℕ} {src : Memref sig .tc .vmem (Sn N) .bf16} {dst : Memref sig (Dev.tc n : Thread nD τ).2.kind .vmem (Sn N) .bf16} {sS sR : DmaSem sig}
    (hS : sS = sendS p s) (hR : sR = recvS p s) (hN : dst.view.amount (.dma sR) = crd p s)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (n : Thread nD τ)))
    (hpay₁ : (src.view.loc (c : Thread nD τ) ↦[src.view.set]{q} fs) ⊢ sendPay m p s c)
    (hpay₂ : (dst.view.loc (n : Thread nD τ) ↦[dst.view.set]{fullShare} dst.view.write (Elt F) fd (src.view.read (Elt F) fs) Finset.univ) ⊢ recvPay m p s n) :
    iprop(env m K ∗ trT (F := F) p s c ∗ trA (F := F) p s c ∗ (src.view.loc (c : Thread nD τ) ↦[src.view.set]{q} fs)
        ∗ (dst.view.loc (n : Thread nD τ) ↦[dst.view.set]{fullShare} fd) ∗ ow (F := F) c i)
      ⊢ iprop((iprop(trS (F := F) p s c ∗ ow (F := F) c (i + 1)) -∗ WPc c (k ⟨⟩) Q)
          -∗ WPc c (.op (.enqueueDma src (.remote (Dev.tc n : Thread nD τ) dst (.dma sS) hsc) (.dma sR) hsrc hdst hsem) k) Q) := by
  subst hn hS hR
  unfold trT trS ow
  iintro ⟨#HE, ⟨HtS, HtR⟩, HA, Hs, Hd, ⟨%W, HO⟩⟩ Hk
  ihave HI1 := env_inv m K c (some (false, p, s)) $$ HE
  ihave HI2 := env_inv m K (peer p s c) (some (true, p, s)) $$ HE
  icases HI1 with ⟨#HI1, #Hr1⟩
  icases HI2 with ⟨#HI2, #Hr2⟩
  iapply (Rounds.wp_send_pointsTo 𝒱₀ ER (Rd (F := F) m) (c : Thread nD τ) none (κ₁ := K (c, some (false, p, s))) (κ₂ := K (peer p s c, some (true, p, s)))
    (r₁ := 0) (r₂ := 0) (d₁ := 0) (d₂ := 0) (fd := fd)
    (by rw [duties_send]; exact Finset.mem_singleton_self _) (by rw [duties_recv]; exact Finset.mem_singleton_self _)
    () () (crd p s) hN (amount_send m c p s 0) (amount_recv m (peer p s c) p s 0) (debt (owedR c (i + 1))) (O₀ := debt (owedR c i)) (by rw [hi, debt_cons]) (W := W)
    (by rw [payload_send]; exact hpay₁) (by rw [payload_recv]; exact hpay₂)) $$ [HtS HtR Hs Hd HO]
  · isplitr; · iexact HI1
    isplitr; · iexact HI2
    isplitl [Hs]; · iexact Hs
    isplitl [Hd]; · iexact Hd
    isplitl [HO]; · iexact HO
    isplitl [HtS]; · iexact HtS
    isplitr; · iexact Hr1
    isplitl [HtR]; · iexact HtR
    iexact Hr2
  iintro ⟨Hc, HO⟩
  iapply Hk
  isplitl [HA Hc]
  · isplitl [HA] <;> iassumption
  iexists W; iexact HO

/-- The same when the source rides with the landing. -/
theorem send_core' (c n : Dev nD) (p : Fin 3) (s : Fin 5) (i : ℕ) (hn : n = peer p s c) (hi : owedR c i = dR c p s :: owedR c (i + 1))
    {N : ℕ} {src : Memref sig .tc .vmem (Sn N) .bf16} {dst : Memref sig (Dev.tc n : Thread nD τ).2.kind .vmem (Sn N) .bf16} {sS sR : DmaSem sig}
    (hS : sS = sendS p s) (hR : sR = recvS p s) (hN : dst.view.amount (.dma sR) = crd p s)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (n : Thread nD τ)))
    (hpay₁ : (emp : sProp 𝕄) ⊢ sendPay m p s c)
    (hpay₂ : iprop((dst.view.loc (n : Thread nD τ) ↦[dst.view.set]{fullShare} dst.view.write (Elt F) fd (src.view.read (Elt F) fs) Finset.univ)
      ∗ (src.view.loc (c : Thread nD τ) ↦[src.view.set]{q} fs)) ⊢ recvPay m p s n) :
    iprop(env m K ∗ trT (F := F) p s c ∗ trA (F := F) p s c ∗ (src.view.loc (c : Thread nD τ) ↦[src.view.set]{q} fs)
        ∗ (dst.view.loc (n : Thread nD τ) ↦[dst.view.set]{fullShare} fd) ∗ ow (F := F) c i)
      ⊢ iprop((iprop(trS (F := F) p s c ∗ ow (F := F) c (i + 1)) -∗ WPc c (k ⟨⟩) Q)
          -∗ WPc c (.op (.enqueueDma src (.remote (Dev.tc n : Thread nD τ) dst (.dma sS) hsc) (.dma sR) hsrc hdst hsem) k) Q) := by
  subst hn hS hR
  unfold trT trS ow
  iintro ⟨#HE, ⟨HtS, HtR⟩, HA, Hs, Hd, ⟨%W, HO⟩⟩ Hk
  ihave HI1 := env_inv m K c (some (false, p, s)) $$ HE
  ihave HI2 := env_inv m K (peer p s c) (some (true, p, s)) $$ HE
  icases HI1 with ⟨#HI1, #Hr1⟩
  icases HI2 with ⟨#HI2, #Hr2⟩
  iapply (Rounds.wp_send_landing_pointsTo 𝒱₀ ER (Rd (F := F) m) (c : Thread nD τ) none (κ₁ := K (c, some (false, p, s))) (κ₂ := K (peer p s c, some (true, p, s)))
    (r₁ := 0) (r₂ := 0) (d₁ := 0) (d₂ := 0) (fd := fd)
    (by rw [duties_send]; exact Finset.mem_singleton_self _) (by rw [duties_recv]; exact Finset.mem_singleton_self _)
    () () (crd p s) hN (amount_send m c p s 0) (amount_recv m (peer p s c) p s 0) (debt (owedR c (i + 1))) (O₀ := debt (owedR c i)) (by rw [hi, debt_cons]) (W := W)
    (by rw [payload_send]; exact hpay₁) (by rw [payload_recv]; exact hpay₂)) $$ [HtS HtR Hs Hd HO]
  · isplitr; · iexact HI1
    isplitr; · iexact HI2
    isplitl [Hs]; · iexact Hs
    isplitl [Hd]; · iexact Hd
    isplitl [HO]; · iexact HO
    isplitl [HtS]; · iexact HtS
    isplitr; · iexact Hr1
    isplitl [HtR]; · iexact HtR
    iexact Hr2
  iintro ⟨Hc, HO⟩
  iapply Hk
  isplitl [HA Hc]
  · isplitl [HA] <;> iassumption
  iexists W; iexact HO

/-! ## The two waits -/

theorem wait_send (c : Dev nD) (p : Fin 3) (s : Fin 5) (i : ℕ) {sem : DmaSem sig} (hS : sem = sendS p s)
    {sp sp' : Space} {S S' : Shape} {e e' : EltTy} {κ' : Kind} {a : Memref sig .tc sp' S' e'} {b : Memref sig κ' sp S e} (hb : b.view.dmaCredit = crd p s)
    {h1 : a.view.WordExact} {h2 : b.view.WordExact} {α : Type} {Q : α → sProp 𝕄} {k : PUnit → Prog (TpuEff nD τ sig (Elt F) Λ₀ .tc) α} :
    iprop(env m K ∗ trS (F := F) p s c ∗ ow (F := F) c i)
      ⊢ iprop((iprop(semVal (sendCell p s c) 0 ∗ sendPay m p s c ∗ ow (F := F) c i) -∗ WPc c (k ⟨⟩) Q)
          -∗ WPc c (.op (.waitDma2 sem a b h1 h2) k) Q) := by
  subst hS
  unfold trS trA ow
  iintro ⟨#HE, ⟨HA, Hc⟩, ⟨%W, HO⟩⟩ Hk
  ihave HI1 := env_inv m K c (some (false, p, s)) $$ HE
  icases HI1 with ⟨#HI1, #Hr1⟩
  iapply (Rounds.wp_wait_rest_token 𝒱₀ ER (Rd (F := F) m) (c : Thread nD τ) none (κ := K (c, some (false, p, s)))
      (wpE_waitDma2_eq 𝒱₀ (c : Thread nD τ) none Set.univ) (Set.mem_univ _) () (O := debt (owedR c i)) (W := W) (R := 0) (m := 0) (T := ∅)
      (by rw [Nat.zero_add, expect_send, hb])) $$ [Hc HO HA]
  · isplitr; · iexact HI1
    isplitl [Hc]; · rw [hb]; iexact Hc
    isplitl [HO]; · iexact HO
    isplitr
    · iapply (mayWait_owed c (.dma (sendS p s)) i (fun x _ => by rw [lvl_send]; exact Nat.succ_pos _))
      iapply (env_lev m K); iexact HE
    iexact HA
  iintro ⟨HO, HA, -, Hpay⟩
  ihave Hpay := (Entails.of_eq (rest_send m c p s)) $$ Hpay
  imod (Rounds.cell_close ER (Rd (F := F) m) (Set.mem_univ (K (c, some (false, p, s)))) (fun h => h) (R := 0 + 1) (duties_later m (sendCell p s c))) $$ [HA] with HZ
  · isplitr; · iexact HI1
    iexact HA
  iapply Hk
  isplitl [HZ]; · iexact HZ
  isplitl [Hpay]; · iexact Hpay
  iexists _; iexact HO

theorem wait_recv (c : Dev nD) (p : Fin 3) (s : Fin 5) (i : ℕ) (hi : ∀ x ∈ xfers.drop i, s.val < x.2.val) {sem : DmaSem sig} (hS : sem = recvS p s)
    {sp sp' : Space} {S S' : Shape} {e e' : EltTy} {κ' : Kind} {a : Memref sig .tc sp' S' e'} {b : Memref sig κ' sp S e} (hb : b.view.dmaCredit = crd p s)
    {h1 : a.view.WordExact} {h2 : b.view.WordExact} {α : Type} {Q : α → sProp 𝕄} {k : PUnit → Prog (TpuEff nD τ sig (Elt F) Λ₀ .tc) α} :
    iprop(env m K ∗ trR (F := F) p s c ∗ ow (F := F) c i)
      ⊢ iprop((iprop(semVal (recvCell p s c) 0 ∗ recvPay m p s c ∗ ow (F := F) c i) -∗ WPc c (k ⟨⟩) Q)
          -∗ WPc c (.op (.waitDma2 sem a b h1 h2) k) Q) := by
  subst hS
  unfold trR ow
  iintro ⟨#HE, ⟨HA, Hc⟩, ⟨%W, HO⟩⟩ Hk
  ihave HI1 := env_inv m K c (some (true, p, s)) $$ HE
  icases HI1 with ⟨#HI1, #Hr1⟩
  iapply (Rounds.wp_wait_rest_token 𝒱₀ ER (Rd (F := F) m) (c : Thread nD τ) none (κ := K (c, some (true, p, s)))
      (wpE_waitDma2_eq 𝒱₀ (c : Thread nD τ) none Set.univ) (Set.mem_univ _) () (O := debt (owedR c i)) (W := W) (R := 0) (m := 0) (T := ∅)
      (by rw [Nat.zero_add, expect_recv, hb])) $$ [Hc HO HA]
  · isplitr; · iexact HI1
    isplitl [Hc]; · rw [hb]; iexact Hc
    isplitl [HO]; · iexact HO
    isplitr
    · iapply (mayWait_owed c (.dma (recvS p s)) i (fun x hx => by rw [lvl_recv]; exact Nat.add_lt_add_right (hi x hx) 2))
      iapply (env_lev m K); iexact HE
    iexact HA
  iintro ⟨HO, HA, -, Hpay⟩
  ihave Hpay := (Entails.of_eq (rest_recv m c p s)) $$ Hpay
  imod (Rounds.cell_close ER (Rd (F := F) m) (Set.mem_univ (K (c, some (true, p, s)))) (fun h => h) (R := 0 + 1) (duties_later m (recvCell p s c))) $$ [HA] with HZ
  · isplitr; · iexact HI1
    iexact HA
  iapply Hk
  isplitl [HZ]; · iexact HZ
  isplitl [Hpay]; · iexact Hpay
  iexists _; iexact HO

/-! ## Rows read and written -/

section Rows
variable {n : ℕ} {off off' : Fin 2 → ℕ} {lo lo' : ℕ} (inb : ∀ a, off a + (Sn n).size a ≤ S4096x512.size a)
    (inb' : ∀ a, off' a + (Sn n).size a ≤ S4096x512.size a)

abbrev rU {n : ℕ} {off : Fin 2 → ℕ} (inb : ∀ a, off a + (Sn n).size a ≤ S4096x512.size a) : Rect S4096x512 := Rect.unit (s := S4096x512) off (Sn n).size inb

abbrev M1 : Memref sig .tc .vmem S4096x512 .bf16 := Memref.whole cc0_scratch1
abbrev M2 : Memref sig .tc .vmem S4096x512 .bf16 := Memref.whole cc0_scratch2
abbrev M3 : Memref sig .tc .vmem S4096x512 .bf16 := Memref.whole cc0_scratch3
abbrev M4 : Memref sig .tc .vmem S4096x512 .f32 := Memref.whole cc0_scratch4
abbrev MO : Memref sig .tc .hbm S4096x512 .f32 := Memref.whole main_v1

theorem bound (hoff : off = ![lo, 0]) (inb : ∀ a, off a + (Sn n).size a ≤ S4096x512.size a) : lo + n ≤ 4096 := by subst hoff; exact inb 0

theorem landed13 (hoff : off = ![lo, 0]) (hoff' : off' = ![lo', 0]) (fd fs : CB (F := F)) (j : Fin n) (k : Fin 512) :
    (M3.slice (rU inb') (fun _ => rfl)).view.write (Elt F) fd ((M1.slice (rU inb) (fun _ => rfl)).view.read (Elt F) fs) Finset.univ (ix (lo' + j.val) k)
      = fs (ix (lo + j.val) k) := by
  rw [← emb_jx inb' hoff' j k, ← emb_jx inb hoff j k]
  exact View.write_emb_of_mem (v := (M3.slice (rU inb') (fun _ => rfl)).view) _ _ (Finset.mem_univ _)
theorem landed23 (hoff : off = ![lo, 0]) (hoff' : off' = ![lo', 0]) (fd fs : CB (F := F)) (j : Fin n) (k : Fin 512) :
    (M3.slice (rU inb') (fun _ => rfl)).view.write (Elt F) fd ((M2.slice (rU inb) (fun _ => rfl)).view.read (Elt F) fs) Finset.univ (ix (lo' + j.val) k)
      = fs (ix (lo + j.val) k) := by
  rw [← emb_jx inb' hoff' j k, ← emb_jx inb hoff j k]
  exact View.write_emb_of_mem (v := (M3.slice (rU inb') (fun _ => rfl)).view) _ _ (Finset.mem_univ _)
theorem landed22 (hoff : off = ![lo, 0]) (hoff' : off' = ![lo', 0]) (fd fs : CB (F := F)) (j : Fin n) (k : Fin 512) :
    (M2.slice (rU inb') (fun _ => rfl)).view.write (Elt F) fd ((M2.slice (rU inb) (fun _ => rfl)).view.read (Elt F) fs) Finset.univ (ix (lo' + j.val) k)
      = fs (ix (lo + j.val) k) := by
  rw [← emb_jx inb' hoff' j k, ← emb_jx inb hoff j k]
  exact View.write_emb_of_mem (v := (M2.slice (rU inb') (fun _ => rfl)).view) _ _ (Finset.mem_univ _)
theorem landedO (hoff : off = ![lo, 0]) (hoff' : off' = ![lo', 0]) (fd fs : CF (F := F)) (j : Fin n) (k : Fin 512) :
    (MO.slice (rU inb') (fun _ => rfl)).view.write (Elt F) fd ((M4.slice (rU inb) (fun _ => rfl)).view.read (Elt F) fs) Finset.univ (ix (lo' + j.val) k)
      = fs (ix (lo + j.val) k) := by
  rw [← emb_jx inb' hoff' j k, ← emb_jx inb hoff j k]
  exact View.write_emb_of_mem (v := (MO.slice (rU inb') (fun _ => rfl)).view) _ _ (Finset.mem_univ _)

theorem eq_rows {α : Type} {f g : S4096x512.Idx → α} (h : ∀ (j : Fin n) (k : Fin 512), f (ix (lo + j.val) k) = g (ix (lo + j.val) k)) :
    ∀ i ∈ rows lo n, f i = g i := by
  intro i hi
  obtain ⟨j, e⟩ := ix_of_mem hi
  rw [e]; exact h j _

theorem set1 (h : off = ![lo, 0]) : (M1.slice (rU inb) (fun _ => rfl)).view.set = rows lo n := (View.set_slice_whole _ _).trans (set_rows inb h)
theorem set2 (h : off = ![lo, 0]) : (M2.slice (rU inb) (fun _ => rfl)).view.set = rows lo n := (View.set_slice_whole _ _).trans (set_rows inb h)
theorem set3 (h : off = ![lo, 0]) : (M3.slice (rU inb) (fun _ => rfl)).view.set = rows lo n := (View.set_slice_whole _ _).trans (set_rows inb h)
theorem set4 (h : off = ![lo, 0]) : (M4.slice (rU inb) (fun _ => rfl)).view.set = rows lo n := (View.set_slice_whole _ _).trans (set_rows inb h)
theorem setO (h : off = ![lo, 0]) : (MO.slice (rU inb) (fun _ => rfl)).view.set = rows lo n := (View.set_slice_whole _ _).trans (set_rows inb h)

theorem on1 (h : off = ![lo, 0]) : M1.view.setOn (rU inb).toLoadRect.set = rows lo n := (Finset.map_refl).trans (set_rows inb h)
theorem on2 (h : off = ![lo, 0]) : M2.view.setOn (rU inb).toLoadRect.set = rows lo n := (Finset.map_refl).trans (set_rows inb h)
theorem on3 (h : off = ![lo, 0]) : M3.view.setOn (rU inb).toLoadRect.set = rows lo n := (Finset.map_refl).trans (set_rows inb h)
theorem on4 (h : off = ![lo, 0]) : M4.view.setOn (rU inb).toLoadRect.set = rows lo n := (Finset.map_refl).trans (set_rows inb h)

theorem at1 (h : off = ![lo, 0]) (f : CB (F := F)) (j : Fin n) (k : Fin 512) : M1.view.readAt (Elt F) (rU inb).toLoadRect f (jx j k) = f (ix (lo + j.val) k) := by
  rw [← emb_jx inb h j k]; rfl
theorem at2 (h : off = ![lo, 0]) (f : CB (F := F)) (j : Fin n) (k : Fin 512) : M2.view.readAt (Elt F) (rU inb).toLoadRect f (jx j k) = f (ix (lo + j.val) k) := by
  rw [← emb_jx inb h j k]; rfl
theorem at3 (h : off = ![lo, 0]) (f : CB (F := F)) (j : Fin n) (k : Fin 512) : M3.view.readAt (Elt F) (rU inb).toLoadRect f (jx j k) = f (ix (lo + j.val) k) := by
  rw [← emb_jx inb h j k]; rfl

theorem wr1 (h : off = ![lo, 0]) (f : CB (F := F)) (w : Vec F (Sn n) .bf16) (j : Fin n) (k : Fin 512) :
    (M1.access (rU inb)).write (Elt F) f w Finset.univ (ix (lo + j.val) k) = w (jx j k) := by
  rw [← emb_jx inb h j k]; exact View.write_emb_of_mem (v := M1.access (rU inb)) _ _ (Finset.mem_univ _)
theorem wr2 (h : off = ![lo, 0]) (f : CB (F := F)) (w : Vec F (Sn n) .bf16) (j : Fin n) (k : Fin 512) :
    (M2.access (rU inb)).write (Elt F) f w Finset.univ (ix (lo + j.val) k) = w (jx j k) := by
  rw [← emb_jx inb h j k]; exact View.write_emb_of_mem (v := M2.access (rU inb)) _ _ (Finset.mem_univ _)
theorem wr4 (h : off = ![lo, 0]) (f : CF (F := F)) (w : Vec F (Sn n) .f32) (j : Fin n) (k : Fin 512) :
    (M4.access (rU inb)).write (Elt F) f w Finset.univ (ix (lo + j.val) k) = w (jx j k) := by
  rw [← emb_jx inb h j k]; exact View.write_emb_of_mem (v := M4.access (rU inb)) _ _ (Finset.mem_univ _)
theorem wr1_off (h : off = ![lo, 0]) (f : CB (F := F)) (w : Vec F (Sn n) .bf16) {i : S4096x512.Idx} (hi : i ∉ rows lo n) :
    (M1.access (rU inb)).write (Elt F) f w Finset.univ i = f i :=
  View.write_of_not_mem (v := M1.access (rU inb)) _ _ _ (by rw [View.setOn_univ]; rw [← set1 inb h] at hi; exact hi)
theorem pts1 (h : off = ![lo, 0]) (c : Dev nD) (q : PosShare TreeShare) (f : CB (F := F)) :
    ((M1.slice (rU inb) (fun _ => rfl)).view.loc (c : Thread nD τ) ↦[(M1.slice (rU inb) (fun _ => rfl)).view.set]{q} f) = pt cc0_scratch1 c (rows lo n) q f := by
  rw [set1 inb h]
theorem pts2 (h : off = ![lo, 0]) (c : Dev nD) (q : PosShare TreeShare) (f : CB (F := F)) :
    ((M2.slice (rU inb) (fun _ => rfl)).view.loc (c : Thread nD τ) ↦[(M2.slice (rU inb) (fun _ => rfl)).view.set]{q} f) = pt cc0_scratch2 c (rows lo n) q f := by
  rw [set2 inb h]
theorem pts3 (h : off = ![lo, 0]) (c : Dev nD) (q : PosShare TreeShare) (f : CB (F := F)) :
    ((M3.slice (rU inb) (fun _ => rfl)).view.loc (c : Thread nD τ) ↦[(M3.slice (rU inb) (fun _ => rfl)).view.set]{q} f) = pt cc0_scratch3 c (rows lo n) q f := by
  rw [set3 inb h]
theorem pts4 (h : off = ![lo, 0]) (c : Dev nD) (q : PosShare TreeShare) (f : CF (F := F)) :
    ((M4.slice (rU inb) (fun _ => rfl)).view.loc (c : Thread nD τ) ↦[(M4.slice (rU inb) (fun _ => rfl)).view.set]{q} f) = pt cc0_scratch4 c (rows lo n) q f := by
  rw [set4 inb h]
theorem ptsO (h : off = ![lo, 0]) (c : Dev nD) (q : PosShare TreeShare) (f : CF (F := F)) :
    ((MO.slice (rU inb) (fun _ => rfl)).view.loc (c : Thread nD τ) ↦[(MO.slice (rU inb) (fun _ => rfl)).view.set]{q} f) = pt main_v1 c (rows lo n) q f := by
  rw [setO inb h]
end Rows

/-! ## The five transfers -/

section Sends
variable {N : ℕ} {off off' : Fin 2 → ℕ} {inb : ∀ a, off a + (Sn N).size a ≤ S4096x512.size a} {inb' : ∀ a, off' a + (Sn N).size a ≤ S4096x512.size a}
    {sS sR : DmaSem sig}

theorem send_T0 (c n : Dev nD) (p : Fin 3) (i : ℕ) (hn : n = peer p 0 c) (hi : owedR c i = dR c p 0 :: owedR c (i + 1))
    (hN : N = 4 * Ks p) (hoff : off = ![ob p c, 0]) (hoff' : off' = ![soff p 0, 0]) (hS : sS = sendS p 0) (hR : sR = recvS p 0)
    {hsc : (M3.slice (rU inb') (fun _ => rfl)).view.ref.isScScratch = false} {hsrc : (M1.slice (rU inb) (fun _ => rfl)).view.WordExact} {hdst : (M3.slice (rU inb') (fun _ => rfl)).view.WordExact}
    {hsem : DmaTarget.Typed .vmem (.dma sR) (.remote (Dev.tc n : Thread nD τ) (M3.slice (rU inb') (fun _ => rfl)) (.dma sS) hsc)}
    {α : Type} {Q : α → sProp 𝕄} {k : PUnit → Prog (TpuEff nD τ sig (Elt F) Λ₀ .tc) α} :
    iprop(env m K ∗ trT (F := F) p 0 c ∗ trA (F := F) p 0 c ∗ pt cc0_scratch1 c (rows (ob p c) (4 * Ks p)) fullShare (Pc m c)
        ∗ land (F := F) p 0 (4 * Ks p) (peer p 0 c) ∗ ow (F := F) c i)
      ⊢ iprop((iprop(trS (F := F) p 0 c ∗ ow (F := F) c (i + 1)) -∗ WPc c (k ⟨⟩) Q)
          -∗ WPc c (.op (.enqueueDma (M1.slice (rU inb) (fun _ => rfl)) (.remote (Dev.tc n : Thread nD τ) (M3.slice (rU inb') (fun _ => rfl)) (.dma sS) hsc) (.dma sR) hsrc hdst hsem) k) Q) := by
  subst hn hN
  unfold land
  iintro ⟨HE, HtT, HtA, Hs, ⟨%fd, Hd⟩, HO⟩
  iapply (send_core m K c _ p 0 i rfl hi (N := 4 * Ks p) (src := M1.slice (rU inb) (fun _ => rfl)) (dst := M3.slice (rU inb') (fun _ => rfl)) hS hR rfl fullShare (Pc m c) fd
    (Entails.of_eq (pts1 inb hoff c fullShare _)) (by
      refine (Entails.of_eq (pts3 inb' hoff' (peer p 0 c) fullShare _)).trans ?_
      iintro H
      unfold recvPay
      iexists _; isplitr
      · ipureintro
        intro j k'
        rw [peer_peer, kb_peer0]
        exact landed13 inb inb' hoff hoff' fd (Pc m c) j k'
      · iexact H))
  isplitl [HE]; · iexact HE
  isplitl [HtT]; · iexact HtT
  isplitl [HtA]; · iexact HtA
  isplitl [Hs]; · iapply (Entails.of_eq (pts1 inb hoff c fullShare (Pc m c)).symm); iexact Hs
  isplitl [Hd]; · iapply (Entails.of_eq (pts3 inb' hoff' (peer p 0 c) fullShare fd).symm); iexact Hd
  iexact HO

theorem send_T1 (c n : Dev nD) (p : Fin 3) (i : ℕ) (hn : n = peer p 1 c) (hi : owedR c i = dR c p 1 :: owedR c (i + 1))
    (hN : N = 2 * Ks p) (hoff : off = ![sb p c, 0]) (hoff' : off' = ![soff p 1, 0]) (hS : sS = sendS p 1) (hR : sR = recvS p 1)
    {hsc : (M3.slice (rU inb') (fun _ => rfl)).view.ref.isScScratch = false} {hsrc : (M2.slice (rU inb) (fun _ => rfl)).view.WordExact} {hdst : (M3.slice (rU inb') (fun _ => rfl)).view.WordExact}
    {hsem : DmaTarget.Typed .vmem (.dma sR) (.remote (Dev.tc n : Thread nD τ) (M3.slice (rU inb') (fun _ => rfl)) (.dma sS) hsc)}
    {α : Type} {Q : α → sProp 𝕄} {k : PUnit → Prog (TpuEff nD τ sig (Elt F) Λ₀ .tc) α} :
    iprop(env m K ∗ trT (F := F) p 1 c ∗ trA (F := F) p 1 c ∗ pt cc0_scratch2 c (rows (sb p c) (2 * Ks p)) fullShare (A1 m p c)
        ∗ land (F := F) p 1 (2 * Ks p) (peer p 1 c) ∗ ow (F := F) c i)
      ⊢ iprop((iprop(trS (F := F) p 1 c ∗ ow (F := F) c (i + 1)) -∗ WPc c (k ⟨⟩) Q)
          -∗ WPc c (.op (.enqueueDma (M2.slice (rU inb) (fun _ => rfl)) (.remote (Dev.tc n : Thread nD τ) (M3.slice (rU inb') (fun _ => rfl)) (.dma sS) hsc) (.dma sR) hsrc hdst hsem) k) Q) := by
  subst hn hN
  unfold land
  iintro ⟨HE, HtT, HtA, Hs, ⟨%fd, Hd⟩, HO⟩
  iapply (send_core' m K c _ p 1 i rfl hi (N := 2 * Ks p) (src := M2.slice (rU inb) (fun _ => rfl)) (dst := M3.slice (rU inb') (fun _ => rfl)) hS hR rfl fullShare (A1 m p c) fd
    (BI.Entails.refl _) (by
      refine (Laws.sep_mono (Entails.of_eq (pts3 inb' hoff' (peer p 1 c) fullShare _)) (Entails.of_eq (pts2 inb hoff c fullShare _))).trans ?_
      unfold recvPay
      rw [peer_peer, rb_peer1]
      iintro ⟨H, H2⟩
      isplitl [H]
      · iexists _; isplitr
        · ipureintro
          intro j k'
          exact landed23 inb inb' hoff hoff' fd (A1 m p c) j k'
        · iexact H
      · iexists _; iexact H2))
  isplitl [HE]; · iexact HE
  isplitl [HtT]; · iexact HtT
  isplitl [HtA]; · iexact HtA
  isplitl [Hs]; · iapply (Entails.of_eq (pts2 inb hoff c fullShare (A1 m p c)).symm); iexact Hs
  isplitl [Hd]; · iapply (Entails.of_eq (pts3 inb' hoff' (peer p 1 c) fullShare fd).symm); iexact Hd
  iexact HO

theorem send_T2 (c n : Dev nD) (p : Fin 3) (i : ℕ) (hn : n = peer p 2 c) (hi : owedR c i = dR c p 2 :: owedR c (i + 1))
    (hN : N = 2 * Ks p) (hoff : off = ![rb p c, 0]) (hoff' : off' = ![soff p 2, 0]) (hS : sS = sendS p 2) (hR : sR = recvS p 2)
    {hsc : (M3.slice (rU inb') (fun _ => rfl)).view.ref.isScScratch = false} {hsrc : (M2.slice (rU inb) (fun _ => rfl)).view.WordExact} {hdst : (M3.slice (rU inb') (fun _ => rfl)).view.WordExact}
    {hsem : DmaTarget.Typed .vmem (.dma sR) (.remote (Dev.tc n : Thread nD τ) (M3.slice (rU inb') (fun _ => rfl)) (.dma sS) hsc)}
    {α : Type} {Q : α → sProp 𝕄} {k : PUnit → Prog (TpuEff nD τ sig (Elt F) Λ₀ .tc) α} :
    iprop(env m K ∗ trT (F := F) p 2 c ∗ trA (F := F) p 2 c ∗ pt cc0_scratch2 c (rows (rb p c) (2 * Ks p)) fullShare (A2 m p c)
        ∗ land (F := F) p 2 (2 * Ks p) (peer p 2 c) ∗ ow (F := F) c i)
      ⊢ iprop((iprop(trS (F := F) p 2 c ∗ ow (F := F) c (i + 1)) -∗ WPc c (k ⟨⟩) Q)
          -∗ WPc c (.op (.enqueueDma (M2.slice (rU inb) (fun _ => rfl)) (.remote (Dev.tc n : Thread nD τ) (M3.slice (rU inb') (fun _ => rfl)) (.dma sS) hsc) (.dma sR) hsrc hdst hsem) k) Q) := by
  subst hn hN
  unfold land
  iintro ⟨HE, HtT, HtA, Hs, ⟨%fd, Hd⟩, HO⟩
  iapply (send_core m K c _ p 2 i rfl hi (N := 2 * Ks p) (src := M2.slice (rU inb) (fun _ => rfl)) (dst := M3.slice (rU inb') (fun _ => rfl)) hS hR rfl fullShare (A2 m p c) fd
    (Entails.of_eq (pts2 inb hoff c fullShare _)) (by
      refine (Entails.of_eq (pts3 inb' hoff' (peer p 2 c) fullShare _)).trans ?_
      iintro H
      unfold recvPay
      iexists _; isplitr
      · ipureintro
        intro j k'
        rw [peer_peer, rb_peer2]
        exact landed23 inb inb' hoff hoff' fd (A2 m p c) j k'
      · iexact H))
  isplitl [HE]; · iexact HE
  isplitl [HtT]; · iexact HtT
  isplitl [HtA]; · iexact HtA
  isplitl [Hs]; · iapply (Entails.of_eq (pts2 inb hoff c fullShare (A2 m p c)).symm); iexact Hs
  isplitl [Hd]; · iapply (Entails.of_eq (pts3 inb' hoff' (peer p 2 c) fullShare fd).symm); iexact Hd
  iexact HO

theorem send_T3 (c n : Dev nD) (p : Fin 3) (i : ℕ) (hn : n = peer p 3 c) (hi : owedR c i = dR c p 3 :: owedR c (i + 1))
    (hN : N = 2 * Ks p) (hoff : off = ![rb p c, 0]) (hoff' : off' = ![rb p c, 0]) (hS : sS = sendS p 3) (hR : sR = recvS p 3)
    {hsc : (M2.slice (rU inb') (fun _ => rfl)).view.ref.isScScratch = false} {hsrc : (M2.slice (rU inb) (fun _ => rfl)).view.WordExact} {hdst : (M2.slice (rU inb') (fun _ => rfl)).view.WordExact}
    {hsem : DmaTarget.Typed .vmem (.dma sR) (.remote (Dev.tc n : Thread nD τ) (M2.slice (rU inb') (fun _ => rfl)) (.dma sS) hsc)}
    {α : Type} {Q : α → sProp 𝕄} {k : PUnit → Prog (TpuEff nD τ sig (Elt F) Λ₀ .tc) α} :
    iprop(env m K ∗ trT (F := F) p 3 c ∗ trA (F := F) p 3 c ∗ pt cc0_scratch2 c (rows (rb p c) (2 * Ks p)) fullShare (A3 m p c)
        ∗ (∃ f : CB (F := F), pt cc0_scratch2 (peer p 1 c) (rows (rb p c) (2 * Ks p)) fullShare f) ∗ ow (F := F) c i)
      ⊢ iprop((iprop(trS (F := F) p 3 c ∗ ow (F := F) c (i + 1)) -∗ WPc c (k ⟨⟩) Q)
          -∗ WPc c (.op (.enqueueDma (M2.slice (rU inb) (fun _ => rfl)) (.remote (Dev.tc n : Thread nD τ) (M2.slice (rU inb') (fun _ => rfl)) (.dma sS) hsc) (.dma sR) hsrc hdst hsem) k) Q) := by
  subst hn hN
  iintro ⟨HE, HtT, HtA, Hs, ⟨%fd, Hd⟩, HO⟩
  iapply (send_core m K c _ p 3 i rfl hi (N := 2 * Ks p) (src := M2.slice (rU inb) (fun _ => rfl)) (dst := M2.slice (rU inb') (fun _ => rfl)) hS hR rfl fullShare (A3 m p c) fd
    (Entails.of_eq (pts2 inb hoff c fullShare _)) (by
      refine (Entails.of_eq (pts2 inb' hoff' (peer p 3 c) fullShare _)).trans ?_
      unfold recvPay
      show _ ⊢ pt cc0_scratch2 (peer p 1 c) (rows (sb p (peer p 1 c)) (2 * Ks p)) fullShare (A3 m p (peer p 1 (peer p 1 c)))
      rw [peer_peer, sb_peer1]
      exact Entails.of_eq (pointsTo_congr (eq_rows fun j k' => landed22 inb inb' hoff hoff' fd (A3 m p c) j k'))))
  isplitl [HE]; · iexact HE
  isplitl [HtT]; · iexact HtT
  isplitl [HtA]; · iexact HtA
  isplitl [Hs]; · iapply (Entails.of_eq (pts2 inb hoff c fullShare (A3 m p c)).symm); iexact Hs
  isplitl [Hd]; · iapply (Entails.of_eq (pts2 inb' hoff' (peer p 3 c) fullShare fd).symm); iexact Hd
  iexact HO

theorem send_T4 (c n : Dev nD) (p : Fin 3) (i : ℕ) (hn : n = peer p 4 c) (hi : owedR c i = dR c p 4 :: owedR c (i + 1))
    (hN : N = 4 * Ks p) (hoff : off = ![kb p c, 0]) (hoff' : off' = ![kb p c, 0]) (hS : sS = sendS p 4) (hR : sR = recvS p 4)
    {hsc : (M2.slice (rU inb') (fun _ => rfl)).view.ref.isScScratch = false} {hsrc : (M2.slice (rU inb) (fun _ => rfl)).view.WordExact} {hdst : (M2.slice (rU inb') (fun _ => rfl)).view.WordExact}
    {hsem : DmaTarget.Typed .vmem (.dma sR) (.remote (Dev.tc n : Thread nD τ) (M2.slice (rU inb') (fun _ => rfl)) (.dma sS) hsc)}
    {α : Type} {Q : α → sProp 𝕄} {k : PUnit → Prog (TpuEff nD τ sig (Elt F) Λ₀ .tc) α} :
    iprop(env m K ∗ trT (F := F) p 4 c ∗ trA (F := F) p 4 c ∗ pt cc0_scratch2 c (rows (kb p c) (4 * Ks p)) fullShare.left (OH m p c)
        ∗ away (F := F) p (peer p 0 c) ∗ ow (F := F) c i)
      ⊢ iprop((iprop(trS (F := F) p 4 c ∗ ow (F := F) c (i + 1)) -∗ WPc c (k ⟨⟩) Q)
          -∗ WPc c (.op (.enqueueDma (M2.slice (rU inb) (fun _ => rfl)) (.remote (Dev.tc n : Thread nD τ) (M2.slice (rU inb') (fun _ => rfl)) (.dma sS) hsc) (.dma sR) hsrc hdst hsem) k) Q) := by
  subst hn hN
  unfold away
  rw [ob_peer0]
  iintro ⟨HE, HtT, HtA, Hs, ⟨%fd, Hd⟩, HO⟩
  iapply (send_core m K c _ p 4 i rfl hi (N := 4 * Ks p) (src := M2.slice (rU inb) (fun _ => rfl)) (dst := M2.slice (rU inb') (fun _ => rfl)) hS hR rfl fullShare.left (OH m p c) fd
    (Entails.of_eq (pts2 inb hoff c fullShare.left _)) (by
      refine (Entails.of_eq (pts2 inb' hoff' (peer p 4 c) fullShare _)).trans ?_
      unfold recvPay
      show _ ⊢ pt cc0_scratch2 (peer p 0 c) (rows (ob p (peer p 0 c)) (4 * Ks p)) fullShare (OH m p (peer p 0 (peer p 0 c)))
      rw [peer_peer, ob_peer0]
      exact Entails.of_eq (pointsTo_congr (eq_rows fun j k' => landed22 inb inb' hoff hoff' fd (OH m p c) j k'))))
  isplitl [HE]; · iexact HE
  isplitl [HtT]; · iexact HtT
  isplitl [HtA]; · iexact HtA
  isplitl [Hs]; · iapply (Entails.of_eq (pts2 inb hoff c fullShare.left (OH m p c)).symm); iexact Hs
  isplitl [Hd]; · iapply (Entails.of_eq (pts2 inb' hoff' (peer p 4 c) fullShare fd).symm); iexact Hd
  iexact HO

end Sends

end Cert.KProof
-- ==== Proof.Steps2.lean ====
/-
# Adding, staging and copying out

The rest of the exchange's steps: the sum of a range with what landed, the extension of a finished
range into the staging buffer, and its copy to the result.
-/
module

public import proofs.«01_k».proof.Proof.Steps

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem sub_of_eq {α : Type} {S T : Finset α} (h : S = T) : S ⊆ T := h ▸ Finset.Subset.refl _

/-! ## Pieces of a buffer, and their joins -/

theorem pt_congr {b : Ref sig .tc} {c : Dev nD} {S : Finset b.ty.Idx} {q : PosShare TreeShare} {f g : b.ty.Contents (Elt F)} (h : ∀ i ∈ S, f i = g i) :
    (pt b c S q f : sProp 𝕄) ⊢ pt b c S q g := Entails.of_eq (pointsTo_congr h)

/-- A piece at any contents. -/
def any (b : Ref sig .tc) (c : Dev nD) (S : Finset b.ty.Idx) : sProp 𝕄 := iprop(∃ f : b.ty.Contents (Elt F), pt b c S fullShare f)

theorem any_intro {b : Ref sig .tc} {c : Dev nD} {S : Finset b.ty.Idx} (f : b.ty.Contents (Elt F)) : (pt b c S fullShare f : sProp 𝕄) ⊢ any b c S := by
  unfold any; iintro H; iexists f; iexact H

theorem any_join {b : Ref sig .tc} {c : Dev nD} {S T U : Finset b.ty.Idx} (hd : Disjoint S T) (hu : U = S ∪ T) :
    iprop(any (F := F) b c S ∗ any (F := F) b c T) ⊢ any b c U := by
  subst hu
  unfold any
  iintro ⟨⟨%f, Hf⟩, ⟨%g, Hg⟩⟩
  iexists T.piecewise g f
  iapply (pointsTo_join hd)
  isplitl [Hf]; · iexact Hf
  iexact Hg

theorem any_split {b : Ref sig .tc} {c : Dev nD} {S T U : Finset b.ty.Idx} (hd : Disjoint S T) (hu : U = S ∪ T) :
    any (F := F) b c U ⊢ iprop(any (F := F) b c S ∗ any (F := F) b c T) := by
  subst hu
  unfold any
  iintro ⟨%f, Hf⟩
  ihave H := (pointsTo_union hd).1 $$ Hf
  icases H with ⟨H1, H2⟩
  isplitl [H1]
  · iexists f; iexact H1
  · iexists f; iexact H2

theorem pt_join {b : Ref sig .tc} {c : Dev nD} {S T U : Finset b.ty.Idx} {q : PosShare TreeShare} {f : b.ty.Contents (Elt F)} (hd : Disjoint S T) (hu : U = S ∪ T) :
    iprop(pt b c S q f ∗ pt b c T q f) ⊢ (pt b c U q f : sProp 𝕄) := by subst hu; exact (pointsTo_union hd).2
theorem pt_split {b : Ref sig .tc} {c : Dev nD} {S T U : Finset b.ty.Idx} {q : PosShare TreeShare} {f : b.ty.Contents (Elt F)} (hd : Disjoint S T) (hu : U = S ∪ T) :
    (pt b c U q f : sProp 𝕄) ⊢ iprop(pt b c S q f ∗ pt b c T q f) := by subst hu; exact (pointsTo_union hd).1

/-! ## Adding what landed -/

section Adds
variable {n : ℕ} {off off' : Fin 2 → ℕ} {lo lo' : ℕ} {inb : ∀ a, off a + (Sn n).size a ≤ S4096x512.size a} {inb' : ∀ a, off' a + (Sn n).size a ≤ S4096x512.size a}

/-- What a store of the sum leaves. -/
theorem sum_eq (hoff : off = ![lo, 0]) (hoff' : off' = ![lo', 0]) (fo A B f : CB (F := F)) (hL : Lands f lo' n B lo)
    {w : Vec F (Sn n) .bf16 → Vec F (Sn n) .bf16 → Vec F (Sn n) .bf16} (hw : ∀ a b y, w a b y = addE (F := F) (a y) (b y))
    {a : Vec F (Sn n) .bf16} (ha : ∀ (j : Fin n) (k : Fin 512), a (jx j k) = A (ix (lo + j.val) k)) :
    ∀ i ∈ rows lo n, (M2.access (rU inb)).write (Elt F) fo (w a (M3.view.readAt (Elt F) (rU inb').toLoadRect f)) Finset.univ i = addE (A i) (B i) :=
  eq_rows fun j k => by rw [wr2 inb hoff, hw, at3 inb' hoff', ha, hL j k]

/-- From the partial product. -/
theorem sum1 (c : Dev nD) (hoff : off = ![lo, 0]) (hoff' : off' = ![lo', 0])
    {h1 : M1.view.LoadsAt (rU inb).toLoadRect} {h2 : M3.view.LoadsAt (rU inb').toLoadRect} {h3 : M2.view.LoadsAt (rU inb).toLoadRect}
    {h4 : (M2.access (rU inb)).Stores Finset.univ} {h5 : (Finset.univ : Finset (rU inb).shape.Idx) = Finset.univ ∨ ∀ a, (rU inb).stride a = 1}
    (A B f : CB (F := F)) (w : Vec F (Sn n) .bf16 → Vec F (Sn n) .bf16 → Vec F (Sn n) .bf16)
    (hw : ∀ a b y, w a b y = addE (F := F) (a y) (b y)) (hL : Lands f lo' n B lo)
    {α : Type} {Q : α → sProp 𝕄} {k : PUnit → Prog (TpuEff nD τ sig (Elt F) Λ₀ .tc) α} :
    iprop(pt cc0_scratch1 c (rows lo n) fullShare A ∗ pt cc0_scratch3 c (rows lo' n) fullShare f ∗ any (F := F) cc0_scratch2 c (rows lo n))
      ⊢ iprop((iprop(pt cc0_scratch1 c (rows lo n) fullShare A ∗ pt cc0_scratch3 c (rows lo' n) fullShare f
            ∗ pt cc0_scratch2 c (rows lo n) fullShare (fun i => addE (A i) (B i))) -∗ WPc c (k ⟨⟩) Q)
          -∗ WPc c (.op (.load M1 (rU inb).toLoadRect h1) fun a => .op (.load M3 (rU inb').toLoadRect h2) fun b => .op (.load M2 (rU inb).toLoadRect h3) fun _ =>
            .op (.store M2 (rU inb) (w a b) Finset.univ h4 h5) k) Q) := by
  unfold any
  iintro ⟨H1, H3, ⟨%fo, H2⟩⟩ Hk
  iapply (wp_load 𝒱₀ (c : Thread nD τ) none Set.univ (m := M1) (S := rows lo n) (sub_of_eq (on1 inb hoff))) $$ H1
  iintro H1
  iapply (wp_load 𝒱₀ (c : Thread nD τ) none Set.univ (m := M3) (S := rows lo' n) (sub_of_eq (on3 inb' hoff'))) $$ H3
  iintro H3
  iapply (wp_load 𝒱₀ (c : Thread nD τ) none Set.univ (m := M2) (S := rows lo n) (sub_of_eq (on2 inb hoff))) $$ H2
  iintro H2
  iapply (wp_store 𝒱₀ (c : Thread nD τ) none Set.univ (m := M2) (r := rU inb) (Mk := Finset.univ) (S := rows lo n)
    (sub_of_eq ((View.setOn_univ _).trans (set2 inb hoff)))) $$ H2
  iintro H2
  iapply Hk
  isplitl [H1]; · iexact H1
  isplitl [H3]; · iexact H3
  iapply (pt_congr (b := cc0_scratch2) (S := rows lo n) (sum_eq (inb := inb) (inb' := inb') hoff hoff' fo A B f hL hw (at1 inb hoff A))); iexact H2

/-- In place. -/
theorem sum2 (c : Dev nD) (hoff : off = ![lo, 0]) (hoff' : off' = ![lo', 0])
    {h1 : M2.view.LoadsAt (rU inb).toLoadRect} {h2 : M3.view.LoadsAt (rU inb').toLoadRect} {h3 : M2.view.LoadsAt (rU inb).toLoadRect}
    {h4 : (M2.access (rU inb)).Stores Finset.univ} {h5 : (Finset.univ : Finset (rU inb).shape.Idx) = Finset.univ ∨ ∀ a, (rU inb).stride a = 1}
    (A B f : CB (F := F)) (w : Vec F (Sn n) .bf16 → Vec F (Sn n) .bf16 → Vec F (Sn n) .bf16)
    (hw : ∀ a b y, w a b y = addE (F := F) (a y) (b y)) (hL : Lands f lo' n B lo)
    {α : Type} {Q : α → sProp 𝕄} {k : PUnit → Prog (TpuEff nD τ sig (Elt F) Λ₀ .tc) α} :
    iprop(pt cc0_scratch2 c (rows lo n) fullShare A ∗ pt cc0_scratch3 c (rows lo' n) fullShare f)
      ⊢ iprop((iprop(pt cc0_scratch3 c (rows lo' n) fullShare f ∗ pt cc0_scratch2 c (rows lo n) fullShare (fun i => addE (A i) (B i))) -∗ WPc c (k ⟨⟩) Q)
          -∗ WPc c (.op (.load M2 (rU inb).toLoadRect h1) fun a => .op (.load M3 (rU inb').toLoadRect h2) fun b => .op (.load M2 (rU inb).toLoadRect h3) fun _ =>
            .op (.store M2 (rU inb) (w a b) Finset.univ h4 h5) k) Q) := by
  iintro ⟨H2, H3⟩ Hk
  iapply (wp_load 𝒱₀ (c : Thread nD τ) none Set.univ (m := M2) (S := rows lo n) (sub_of_eq (on2 inb hoff))) $$ H2
  iintro H2
  iapply (wp_load 𝒱₀ (c : Thread nD τ) none Set.univ (m := M3) (S := rows lo' n) (sub_of_eq (on3 inb' hoff'))) $$ H3
  iintro H3
  iapply (wp_load 𝒱₀ (c : Thread nD τ) none Set.univ (m := M2) (S := rows lo n) (sub_of_eq (on2 inb hoff))) $$ H2
  iintro H2
  iapply (wp_store 𝒱₀ (c : Thread nD τ) none Set.univ (m := M2) (r := rU inb) (Mk := Finset.univ) (S := rows lo n)
    (sub_of_eq ((View.setOn_univ _).trans (set2 inb hoff)))) $$ H2
  iintro H2
  iapply Hk
  isplitl [H3]; · iexact H3
  iapply (pt_congr (b := cc0_scratch2) (S := rows lo n) (sum_eq (inb := inb) (inb' := inb') hoff hoff' A A B f hL hw (at2 inb hoff A))); iexact H2

/-! ## Staging the result and copying it out -/

/-- The load of a sum. -/
theorem ld2 (c : Dev nD) (q : PosShare TreeShare) (hoff : off = ![lo, 0]) {h1 : M2.view.LoadsAt (rU inb).toLoadRect} (A : CB (F := F))
    {α : Type} {Q : α → sProp 𝕄} {k : Vec F (Sn n) .bf16 → Prog (TpuEff nD τ sig (Elt F) Λ₀ .tc) α} :
    pt cc0_scratch2 c (rows lo n) q A
      ⊢ iprop((pt cc0_scratch2 c (rows lo n) q A -∗ WPc c (k (M2.view.readAt (Elt F) (rU inb).toLoadRect A)) Q)
          -∗ WPc c (.op (.load M2 (rU inb).toLoadRect h1) k) Q) :=
  wp_load 𝒱₀ (c : Thread nD τ) none Set.univ (m := M2) (S := rows lo n) (sub_of_eq (on2 inb hoff))

/-- The store of its extension. -/
theorem st4 (c : Dev nD) (hoff : off = ![lo, 0]) {h1 : M4.view.LoadsAt (rU inb).toLoadRect}
    {h4 : (M4.access (rU inb)).Stores Finset.univ} {h5 : (Finset.univ : Finset (rU inb).shape.Idx) = Finset.univ ∨ ∀ a, (rU inb).stride a = 1}
    (w : Vec F (Sn n) .f32) (A : CF (F := F)) (hw : ∀ (j : Fin n) (k : Fin 512), w (jx j k) = A (ix (lo + j.val) k))
    {α : Type} {Q : α → sProp 𝕄} {k : PUnit → Prog (TpuEff nD τ sig (Elt F) Λ₀ .tc) α} :
    any (F := F) cc0_scratch4 c (rows lo n)
      ⊢ iprop((pt cc0_scratch4 c (rows lo n) fullShare A -∗ WPc c (k ⟨⟩) Q)
          -∗ WPc c (.op (.load M4 (rU inb).toLoadRect h1) fun _ => .op (.store M4 (rU inb) w Finset.univ h4 h5) k) Q) := by
  unfold any
  iintro ⟨%f, H⟩ Hk
  iapply (wp_load 𝒱₀ (c : Thread nD τ) none Set.univ (m := M4) (S := rows lo n) (sub_of_eq (on4 inb hoff))) $$ H
  iintro H
  iapply (wp_store 𝒱₀ (c : Thread nD τ) none Set.univ (m := M4) (r := rU inb) (Mk := Finset.univ) (S := rows lo n)
    (sub_of_eq ((View.setOn_univ _).trans (set4 inb hoff)))) $$ H
  iintro H
  iapply Hk
  iapply (pt_congr (b := cc0_scratch4) (S := rows lo n) (eq_rows fun j k' => (wr4 inb hoff f w j k').trans (hw j k'))); iexact H

/-- The semaphore of an output copy, and its credit. -/
def cS (j : Fin 6) : DmaSem sig := ⟨4 + j.val, by have := j.isLt; show _ < 46; omega⟩
abbrev credO (n : ℕ) : ℕ := (MO : Memref sig .tc _ _ _).view.ref.dmaCredit (Sn n) .f32
theorem credO_pos {n : ℕ} (h : 0 < n) : 0 < credO n :=
  sig.dmaCredit_pos _ _ _ _ _ (by
    have h1 : 0 < (Sn n).size 1 := Nat.succ_pos 511
    unfold Shape.numel; rw [Fin.prod_univ_two]; exact Nat.mul_pos h h1)

/-- An output copy in flight: what its wait hands back. -/
def OF (c : Dev nD) (j : Fin 6) (lo n : ℕ) : sProp 𝕄 :=
  Transfers.Flight EC (c : Thread nD τ) (.dma (cS j)) () (credO n)
    iprop(pt main_v1 c (rows lo n) fullShare (OUT m c) ∗ pt cc0_scratch4 c (rows lo n) fullShare (OUT m c))
abbrev cZ (c : Dev nD) (j : Fin 6) : sProp 𝕄 := semVal ((c : Thread nD τ), .dma (cS j)) 0

theorem out_start (c : Dev nD) (j : Fin 6) (hn0 : 0 < n) (hoff : off = ![lo, 0]) {sm : DmaSem sig} (hS : sm = cS j)
    {hsrc : (M4.slice (rU inb) (fun _ => rfl)).view.WordExact} {hdst : (MO.slice (rU inb) (fun _ => rfl)).view.WordExact}
    {hsem : DmaTarget.Typed .vmem (.dma sm) (.here (MO.slice (rU inb) (fun _ => rfl)) : DmaTarget nD τ sig .tc .hbm (Sn n) .f32)}
    {α : Type} {Q : α → sProp 𝕄} {k : PUnit → Prog (TpuEff nD τ sig (Elt F) Λ₀ .tc) α} :
    iprop(pt cc0_scratch4 c (rows lo n) fullShare (OUT m c) ∗ any (F := F) main_v1 c (rows lo n) ∗ cZ (F := F) c j)
      ⊢ iprop((OF m c j lo n -∗ WPc c (k ⟨⟩) Q)
          -∗ WPc c (.op (.enqueueDma (M4.slice (rU inb) (fun _ => rfl)) (.here (MO.slice (rU inb) (fun _ => rfl))) (.dma sm) hsrc hdst hsem) k) Q) := by
  subst hS
  unfold any
  iintro ⟨H4, ⟨%fd, HO⟩, HZ⟩ Hk
  iapply (Transfers.wp_dmaLocal EC 𝒱₀ (c : Thread nD τ) none (src := M4.slice (rU inb) (fun _ => rfl)) (dst := MO.slice (rU inb) (fun _ => rfl)) (via := .same)
    (q := fullShare) (fs := OUT m c) (Sd := rows lo n) (fd := fd) () (credO n) rfl (credO_pos hn0) (sub_of_eq (setO inb hoff))) $$ [H4 HO HZ]
  · isplitl [H4]; · iapply (Entails.of_eq (pts4 inb hoff c fullShare (OUT m c)).symm); iexact H4
    isplitl [HO]; · iexact HO
    iexact HZ
  iintro HF
  iapply Hk
  unfold OF
  have e1 : (((MO.slice (rU inb) (fun _ => rfl)).view.loc (c : Thread nD τ) ↦[rows lo n]{fullShare}
        ((MO.slice (rU inb) (fun _ => rfl)).view.write (Elt F) fd ((M4.slice (rU inb) (fun _ => rfl)).view.read (Elt F) (OUT m c)) Finset.univ) : sProp 𝕄))
      = (pt main_v1 c (rows lo n) fullShare (OUT m c) : sProp 𝕄) :=
    pointsTo_congr (eq_rows fun j' k' => landedO inb inb hoff hoff fd (OUT m c) j' k')
  have e2 := pts4 inb hoff c fullShare (OUT m c)
  iapply (Entails.of_eq (congrArg (Transfers.Flight EC (c : Thread nD τ) (.dma (cS j)) () (credO n)) (congrArg₂ (fun a b => iprop(a ∗ b)) e1 e2)))
  iexact HF

/-- Its wait, once nothing is owed. -/
theorem out_wait (c : Dev nD) (j : Fin 6) {sm : DmaSem sig} (hS : sm = cS j)
    {sp sp' : Space} {S' : Shape} {e' : EltTy} {κ' : Kind} {a : Memref sig .tc sp' S' e'} {b : Memref sig κ' sp (Sn n) .f32} (hb : b.view.dmaCredit = credO n)
    {h1 : a.view.WordExact} {h2 : b.view.WordExact}
    {α : Type} {Q : α → sProp 𝕄} {k : PUnit → Prog (TpuEff nD τ sig (Elt F) Λ₀ .tc) α} :
    iprop(env m K ∗ OF m c j lo n ∗ ow (F := F) c 15)
      ⊢ iprop((iprop(pt main_v1 c (rows lo n) fullShare (OUT m c) ∗ pt cc0_scratch4 c (rows lo n) fullShare (OUT m c) ∗ cZ (F := F) c j ∗ ow (F := F) c 15) -∗ WPc c (k ⟨⟩) Q)
          -∗ WPc c (.op (.waitDma2 sm a b h1 h2) k) Q) := by
  subst hS
  unfold OF ow
  iintro ⟨HE, HF, ⟨%W, HO⟩⟩ Hk
  iapply (Transfers.wp_waitLocalO EC 𝒱₀ (c : Thread nD τ) none () hb) $$ [HE HF HO]
  · isplitl [HF]; · iexact HF
    isplitl [HO]; · iexact HO
    iapply (mayWait_owed c (.dma (cS j)) 15 (fun x hx => by
      have : xfers.drop 15 = [] := rfl
      rw [this] at hx; exact absurd hx List.not_mem_nil))
    iapply (env_lev m K); iexact HE
  iintro ⟨⟨H1, H2⟩, HZ, HO⟩
  iapply Hk
  isplitl [H1]; · iexact H1
  isplitl [H2]; · iexact H2
  isplitl [HZ]; · iexact HZ
  iexists _; iexact HO

end Adds

end Cert.KProof
-- ==== Proof.Steps3.lean ====
/-
# The input, the partial product and the barrier

The copies of the input's batches into the two slots, what the convolution loads, the store of a
batch's partial product, and the barrier's signals and wait.
-/
module

public import proofs.«01_k».proof.Proof.Steps2

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The input's batches -/

abbrev M0 : Memref sig .tc .vmem S2x1032x512 .f32 := Memref.whole cc0_scratch0
abbrev MX : Memref sig .tc .hbm S4x1024x512 .f32 := Memref.whole main_arg0
abbrev MK : Memref sig .tc .vmem S4x512 .f32 := Memref.whole cc0_stg0_0
abbrev MW : Memref sig .tc .vmem S512x512 .f32 := Memref.whole cc0_stg1_0

/-- One of the two slots of the input buffer, and one batch of the input. -/
def slot (sl : ℕ) : Finset S2x1032x512.Idx := Finset.univ.filter fun i => (i 0).val = sl
def bat (b : Fin 4) : Finset S4x1024x512.Idx := Finset.univ.filter fun i => (i 0).val = b.val
theorem mem_slot {sl : ℕ} {i : S2x1032x512.Idx} : i ∈ slot sl ↔ (i 0).val = sl := by simp [slot]
theorem mem_bat {b : Fin 4} {i : S4x1024x512.Idx} : i ∈ bat b ↔ (i 0).val = b.val := by simp [bat]

/-- A slot that holds batch `b` behind its padding. -/
def xbuf (c : Dev nD) (b : Fin 4) : S2x1032x512.Idx → Elt F .f32 := fun i => xpad m c b (i 1).val (i 2)
/-- A slot whose padding is zero. -/
def padded (c : Dev nD) (sl : ℕ) : sProp 𝕄 :=
  iprop(∃ f : S2x1032x512.Idx → Elt F .f32, ⌜∀ i ∈ slot sl, (i 1).val < 8 → f i = Scalar.ofBits .f32 0x00000000#32⌝ ∗ pt cc0_scratch0 c (slot sl) fullShare f)

theorem padded_of (c : Dev nD) (sl : ℕ) (b : Fin 4) : (pt cc0_scratch0 c (slot sl) fullShare (xbuf m c b) : sProp 𝕄) ⊢ padded c sl := by
  unfold padded
  iintro H
  iexists (xbuf m c b)
  isplitr
  · ipureintro
    intro i _ h
    exact if_pos h
  iexact H

section X
variable {off : Fin 3 → ℕ} {sl : ℕ}

theorem set_pad (inb : ∀ a, ![sl, 0, 0] a + S1x8x512.size a ≤ S2x1032x512.size a) : (Rect.unit (s := S2x1032x512) ![sl, 0, 0] S1x8x512.size inb).set ⊆ slot sl := by
  intro i hi
  rw [Rect.mem_set_unit] at hi
  have h1 : sl ≤ (i 0).val := (hi 0).1
  have h2 : (i 0).val < sl + 1 := (hi 0).2
  rw [mem_slot]; omega
theorem mem_pad (inb : ∀ a, ![sl, 0, 0] a + S1x8x512.size a ≤ S2x1032x512.size a) {i : S2x1032x512.Idx} (hi : i ∈ slot sl) (h8 : (i 1).val < 8) :
    i ∈ (Rect.unit (s := S2x1032x512) ![sl, 0, 0] S1x8x512.size inb).set := by
  rw [Rect.mem_set_unit]
  rw [mem_slot] at hi
  have h2 : (i 2).val < 512 := (i 2).isLt
  intro a
  match a with
  | ⟨0, _⟩ => exact ⟨le_of_eq hi.symm, by show (i 0).val < sl + 1; omega⟩
  | ⟨1, _⟩ => exact ⟨Nat.zero_le _, by show (i 1).val < 0 + 8; omega⟩
  | ⟨2, _⟩ => exact ⟨Nat.zero_le _, by show (i 2).val < 0 + 512; omega⟩
theorem pad_eq (inb : ∀ a, ![sl, 0, 0] a + S1x8x512.size a ≤ S2x1032x512.size a) (f : S2x1032x512.Idx → Elt F .f32)
    (w : Vec F S1x8x512 .f32) (hw : ∀ y, w y = Scalar.ofBits .f32 0x00000000#32) :
    ∀ i ∈ slot sl, (i 1).val < 8 → (M0.access (Rect.unit (s := S2x1032x512) ![sl, 0, 0] S1x8x512.size inb)).write (Elt F) f w Finset.univ i = Scalar.ofBits .f32 0x00000000#32 := by
  intro i hi h8
  have hm : i ∈ (M0.access (Rect.unit (s := S2x1032x512) ![sl, 0, 0] S1x8x512.size inb)).set := by
    rw [View.set_slice_whole]; exact mem_pad inb hi h8
  obtain ⟨y, -, hy⟩ := Finset.mem_map.mp hm
  rw [← hy]
  exact (View.write_emb_of_mem (v := M0.access (Rect.unit (s := S2x1032x512) ![sl, 0, 0] S1x8x512.size inb)) f w (Finset.mem_univ y)).trans (hw y)

theorem st_pad (c : Dev nD) {inb : ∀ a, off a + S1x8x512.size a ≤ S2x1032x512.size a} (hoff : off = ![sl, 0, 0])
    {h1 : M0.view.LoadsAt (Rect.unit (s := S2x1032x512) off S1x8x512.size inb).toLoadRect}
    {h4 : (M0.access (Rect.unit (s := S2x1032x512) off S1x8x512.size inb)).Stores Finset.univ}
    {h5 : (Finset.univ : Finset (Rect.unit (s := S2x1032x512) off S1x8x512.size inb).shape.Idx) = Finset.univ ∨ ∀ a, (Rect.unit (s := S2x1032x512) off S1x8x512.size inb).stride a = 1}
    (w : Vec F S1x8x512 .f32) (hw : ∀ y, w y = Scalar.ofBits .f32 0x00000000#32)
    {α : Type} {Q : α → sProp 𝕄} {k : PUnit → Prog (TpuEff nD τ sig (Elt F) Λ₀ .tc) α} :
    any (F := F) cc0_scratch0 c (slot sl)
      ⊢ iprop((padded (F := F) c sl -∗ WPc c (k ⟨⟩) Q)
          -∗ WPc c (.op (.load M0 (Rect.unit (s := S2x1032x512) off S1x8x512.size inb).toLoadRect h1) fun _ =>
              .op (.store M0 (Rect.unit (s := S2x1032x512) off S1x8x512.size inb) w Finset.univ h4 h5) k) Q) := by
  subst hoff
  unfold any padded
  iintro ⟨%f, H⟩ Hk
  iapply (wp_load 𝒱₀ (c : Thread nD τ) none Set.univ (m := M0) (S := slot sl) ((sub_of_eq Finset.map_refl).trans (set_pad inb))) $$ H
  iintro H
  iapply (wp_store 𝒱₀ (c : Thread nD τ) none Set.univ (m := M0) (r := Rect.unit (s := S2x1032x512) ![sl, 0, 0] S1x8x512.size inb) (Mk := Finset.univ) (S := slot sl)
    ((sub_of_eq ((View.setOn_univ _).trans (View.set_slice_whole _ _))).trans (set_pad inb))) $$ H
  iintro H
  iapply Hk
  iexists ((M0.access (Rect.unit (s := S2x1032x512) ![sl, 0, 0] S1x8x512.size inb)).write (Elt F) f w Finset.univ)
  isplitr
  · ipureintro
    exact pad_eq inb f w hw
  iexact H

/-- The semaphore of an input copy. -/
def xS (j : Fin 2) : DmaSem sig := ⟨2 + j.val, by have := j.isLt; show _ < 46; omega⟩
abbrev xZ (c : Dev nD) (j : Fin 2) : sProp 𝕄 := semVal ((c : Thread nD τ), .dma (xS j)) 0
abbrev credX : ℕ := (M0 : Memref sig .tc _ _ _).view.ref.dmaCredit S1024x512 .f32
theorem credX_pos : 0 < credX := sig.dmaCredit_pos _ _ _ _ _ (by decide)

abbrev xR (off : Fin 3 → ℕ) (inb : ∀ a, off a + S1x1024x512.size a ≤ S2x1032x512.size a) : Rect S2x1032x512 := Rect.unit (s := S2x1032x512) off S1x1024x512.size inb
abbrev xQ (off : Fin 3 → ℕ) (inb : ∀ a, off a + S1x1024x512.size a ≤ S4x1024x512.size a) : Rect S4x1024x512 := Rect.unit (s := S4x1024x512) off S1x1024x512.size inb
abbrev dstX (off : Fin 3 → ℕ) (inb : ∀ a, off a + S1x1024x512.size a ≤ S2x1032x512.size a) : Memref sig .tc .vmem S1024x512 .f32 :=
  (M0.slice (xR off inb) (fun _ => rfl)).squeeze S1024x512 squeezes_S1x1024x512_S1024x512
abbrev srcX (off : Fin 3 → ℕ) (inb : ∀ a, off a + S1x1024x512.size a ≤ S4x1024x512.size a) : Memref sig .tc .hbm S1024x512 .f32 :=
  (MX.slice (xQ off inb) (fun _ => rfl)).squeeze S1024x512 squeezes_S1x1024x512_S1024x512

theorem emb_dstX (inb : ∀ a, off a + S1x1024x512.size a ≤ S2x1032x512.size a) (y : S1024x512.Idx) :
    (dstX off inb).view.emb y = (xR off inb).emb (Fin.cons ⟨0, Nat.one_pos⟩ y) :=
  congrArg (xR off inb).emb (Shape.reshapeEquiv_cons_one (n := 2) (d := ![1024, 512]) _ y)
theorem emb_srcX (inb : ∀ a, off a + S1x1024x512.size a ≤ S4x1024x512.size a) (y : S1024x512.Idx) :
    (srcX off inb).view.emb y = (xQ off inb).emb (Fin.cons ⟨0, Nat.one_pos⟩ y) :=
  congrArg (xQ off inb).emb (Shape.reshapeEquiv_cons_one (n := 2) (d := ![1024, 512]) _ y)

theorem set_dstX (inb : ∀ a, off a + S1x1024x512.size a ≤ S2x1032x512.size a) (o : ℕ) (hoff : off = ![sl, o, 0]) : (xR off inb).set ⊆ slot sl := by
  subst hoff
  intro i hi
  rw [Rect.mem_set_unit] at hi
  have h := hi 0
  have h1 : sl ≤ (i 0).val := h.1
  have h2 : (i 0).val < sl + 1 := h.2
  rw [mem_slot]; omega
theorem set_srcX (inb : ∀ a, off a + S1x1024x512.size a ≤ S4x1024x512.size a) (b : Fin 4) (hoff : off = ![b.val, 0, 0]) : (srcX off inb).view.set = bat b := by
  subst hoff
  refine ((View.set_reshape _ _).trans (View.set_slice_whole _ _)).trans ?_
  ext i
  rw [Rect.mem_set_unit, mem_bat]
  constructor
  · intro hi
    have h1 : b.val ≤ (i 0).val := (hi 0).1
    have h2 : (i 0).val < b.val + 1 := (hi 0).2
    omega
  · intro hi a
    match a with
    | ⟨0, _⟩ => exact ⟨le_of_eq hi.symm, by show (i 0).val < b.val + 1; omega⟩
    | ⟨1, _⟩ => exact ⟨Nat.zero_le _, by have : (i 1).val < 1024 := (i 1).isLt; show (i 1).val < 0 + 1024; omega⟩
    | ⟨2, _⟩ => exact ⟨Nat.zero_le _, by have : (i 2).val < 512 := (i 2).isLt; show (i 2).val < 0 + 512; omega⟩

/-- An input copy in flight. -/
def XF (c : Dev nD) (sl : Fin 2) (b : Fin 4) : sProp 𝕄 :=
  Transfers.Flight EC (c : Thread nD τ) (.dma (xS sl)) () credX
    iprop(pt cc0_scratch0 c (slot sl.val) fullShare (xbuf m c b) ∗ pt main_arg0 c (bat b) fullShare (xarr m c))

/-- What it leaves in its slot. -/
theorem x_lands (c : Dev nD) (sl : ℕ) (b : Fin 4) {off off' : Fin 3 → ℕ} (hoff : off = ![sl, 8, 0]) (hoff' : off' = ![b.val, 0, 0])
    (inb : ∀ a, off a + S1x1024x512.size a ≤ S2x1032x512.size a) (inb' : ∀ a, off' a + S1x1024x512.size a ≤ S4x1024x512.size a)
    (fd : S2x1032x512.Idx → Elt F .f32) (hp : ∀ i ∈ slot sl, (i 1).val < 8 → fd i = Scalar.ofBits .f32 0x00000000#32) :
    ∀ i ∈ slot sl, (dstX off inb).view.write (Elt F) fd ((srcX off' inb').view.read (Elt F) (xarr m c)) Finset.univ i = xbuf m c b i := by
  subst hoff hoff'
  intro i hi
  have hi0 := mem_slot.mp hi
  by_cases h8 : (i 1).val < 8
  · rw [View.write_of_not_mem (v := (dstX ![sl, 8, 0] inb).view)]
    · rw [hp i hi h8]; exact (if_pos h8).symm
    · rw [View.setOn_univ]
      intro h
      have h' : i ∈ (xR ![sl, 8, 0] inb).set := by
        rw [show (dstX ![sl, 8, 0] inb).view.set = (xR ![sl, 8, 0] inb).set from (View.set_reshape _ _).trans (View.set_slice_whole _ _)] at h
        exact h
      rw [Rect.mem_set_unit] at h'
      have : 8 ≤ (i 1).val := (h' 1).1
      omega
  · have hlt : (i 1).val < 1032 := by simpa using (i 1).isLt
    let y : S1024x512.Idx := jx (n := 1024) ⟨(i 1).val - 8, by omega⟩ (i 2)
    have hy : (dstX ![sl, 8, 0] inb).view.emb y = i := by
      rw [emb_dstX]
      funext a
      match a with
      | ⟨0, _⟩ => exact Fin.ext (by show sl + 1 * 0 = (i 0).val; omega)
      | ⟨1, _⟩ => exact Fin.ext (by show 8 + 1 * ((i 1).val - 8) = (i 1).val; omega)
      | ⟨2, _⟩ => exact Fin.ext (by show 0 + 1 * (i 2).val = (i 2).val; omega)
    have e : (dstX ![sl, 8, 0] inb).view.write (Elt F) fd ((srcX ![b.val, 0, 0] inb').view.read (Elt F) (xarr m c)) Finset.univ ((dstX ![sl, 8, 0] inb).view.emb y)
        = xarr m c ((srcX ![b.val, 0, 0] inb').view.emb y) :=
      View.write_emb_of_mem (v := (dstX ![sl, 8, 0] inb).view) _ _ (Finset.mem_univ _)
    rw [hy] at e
    rw [e, emb_srcX]
    refine Eq.trans ?_ (if_neg h8).symm
    congr 1
    funext a
    match a with
    | ⟨0, _⟩ => exact Fin.ext (by show b.val + 1 * 0 = b.val; omega)
    | ⟨1, _⟩ => exact Fin.ext (by show 0 + 1 * ((i 1).val - 8) = ((i 1).val - 8) % 1024; rw [Nat.mod_eq_of_lt (by omega)]; omega)
    | ⟨2, _⟩ => exact Fin.ext (by show 0 + 1 * (i 2).val = (i 2).val; omega)

theorem x_start (c : Dev nD) (sl : Fin 2) (b : Fin 4) {s : ℕ} (hs : s = sl.val) {off off' : Fin 3 → ℕ} (hoff : off = ![sl.val, 8, 0]) (hoff' : off' = ![b.val, 0, 0])
    {inb : ∀ a, off a + S1x1024x512.size a ≤ S2x1032x512.size a} {inb' : ∀ a, off' a + S1x1024x512.size a ≤ S4x1024x512.size a}
    {sm : DmaSem sig} (hS : sm = xS sl)
    {hsrc : (srcX off' inb').view.WordExact} {hdst : (dstX off inb).view.WordExact}
    {hsem : DmaTarget.Typed .hbm (.dma sm) (.here (dstX off inb) : DmaTarget nD τ sig .tc .vmem S1024x512 .f32)}
    {α : Type} {Q : α → sProp 𝕄} {k : PUnit → Prog (TpuEff nD τ sig (Elt F) Λ₀ .tc) α} :
    iprop(pt main_arg0 c (bat b) fullShare (xarr m c) ∗ padded (F := F) c s ∗ xZ (F := F) c sl)
      ⊢ iprop((XF m c sl b -∗ WPc c (k ⟨⟩) Q)
          -∗ WPc c (.op (.enqueueDma (srcX off' inb') (.here (dstX off inb)) (.dma sm) hsrc hdst hsem) k) Q) := by
  subst hS hs
  unfold padded
  iintro ⟨HX, ⟨%fd, %hp, HD⟩, HZ⟩ Hk
  have es := set_srcX inb' b hoff'
  have ep : ∀ f, ((srcX off' inb').view.loc (c : Thread nD τ) ↦[(srcX off' inb').view.set]{fullShare} f : sProp 𝕄) = pt main_arg0 c (bat b) fullShare f := fun f => by rw [es]
  iapply (Transfers.wp_dmaLocal EC 𝒱₀ (c : Thread nD τ) none (src := srcX off' inb') (dst := dstX off inb) (via := .same)
    (q := fullShare) (fs := xarr m c) (Sd := slot sl.val) (fd := fd) () credX rfl credX_pos
    ((sub_of_eq ((View.set_reshape _ _).trans (View.set_slice_whole _ _))).trans (set_dstX inb 8 hoff))) $$ [HX HD HZ]
  · isplitl [HX]; · iapply (Entails.of_eq (ep (xarr m c)).symm); iexact HX
    isplitl [HD]; · iexact HD
    iexact HZ
  iintro HF
  iapply Hk
  unfold XF
  have e1 : ((dstX off inb).view.loc (c : Thread nD τ) ↦[slot sl.val]{fullShare}
        ((dstX off inb).view.write (Elt F) fd ((srcX off' inb').view.read (Elt F) (xarr m c)) Finset.univ) : sProp 𝕄)
      = (pt cc0_scratch0 c (slot sl.val) fullShare (xbuf m c b) : sProp 𝕄) :=
    pointsTo_congr (x_lands m c sl.val b hoff hoff' inb inb' fd hp)
  iapply (Entails.of_eq (congrArg (Transfers.Flight EC (c : Thread nD τ) (.dma (xS sl)) () credX) (congrArg₂ (fun a b => iprop(a ∗ b)) e1 (ep (xarr m c)))))
  iexact HF

theorem x_wait (c : Dev nD) (sl : Fin 2) (b : Fin 4) {s : ℕ} (hs : s = sl.val) (i : ℕ) {sm : DmaSem sig} (hS : sm = xS sl)
    {sp sp' : Space} {S' : Shape} {e' : EltTy} {κ' : Kind} {a : Memref sig .tc sp' S' e'} {d : Memref sig κ' sp S1024x512 .f32} (hb : d.view.dmaCredit = credX)
    {h1 : a.view.WordExact} {h2 : d.view.WordExact}
    {α : Type} {Q : α → sProp 𝕄} {k : PUnit → Prog (TpuEff nD τ sig (Elt F) Λ₀ .tc) α} :
    iprop(env m K ∗ XF m c sl b ∗ ow (F := F) c i)
      ⊢ iprop((iprop(pt cc0_scratch0 c (slot s) fullShare (xbuf m c b) ∗ pt main_arg0 c (bat b) fullShare (xarr m c) ∗ xZ (F := F) c sl ∗ ow (F := F) c i) -∗ WPc c (k ⟨⟩) Q)
          -∗ WPc c (.op (.waitDma2 sm a d h1 h2) k) Q) := by
  subst hS hs
  unfold XF ow
  iintro ⟨HE, HF, ⟨%W, HO⟩⟩ Hk
  iapply (Transfers.wp_waitLocalO EC 𝒱₀ (c : Thread nD τ) none () hb) $$ [HE HF HO]
  · isplitl [HF]; · iexact HF
    isplitl [HO]; · iexact HO
    iapply (mayWait_owed c (.dma (xS sl)) i (fun x hx => by
      rw [show lvl (.dma (xS sl)) = 0 by revert sl; decide]; exact Nat.succ_pos _))
    iapply (env_lev m K); iexact HE
  iintro ⟨⟨H1, H2⟩, HZ, HO⟩
  iapply Hk
  isplitl [H1]; · iexact H1
  isplitl [H2]; · iexact H2
  isplitl [HZ]; · iexact HZ
  iexists _; iexact HO

/-! ## What the convolution loads -/

theorem ldx (c : Dev nD) (sl : ℕ) (b : Fin 4) (o : ℕ) {inb : ∀ a, off a + S1x1024x512.size a ≤ S2x1032x512.size a} (hoff : off = ![sl, o, 0])
    {h1 : M0.view.LoadsAt (xR off inb).toLoadRect}
    {α : Type} {Q : α → sProp 𝕄} {k : Vec F S1x1024x512 .f32 → Prog (TpuEff nD τ sig (Elt F) Λ₀ .tc) α} :
    pt cc0_scratch0 c (slot sl) fullShare (xbuf m c b)
      ⊢ iprop((pt cc0_scratch0 c (slot sl) fullShare (xbuf m c b) -∗ WPc c (k (xv m c b o)) Q) -∗ WPc c (.op (.load M0 (xR off inb).toLoadRect h1) k) Q) := by
  have e : M0.view.readAt (Elt F) (xR off inb).toLoadRect (xbuf m c b) = xv m c b o := by
    subst hoff
    funext y
    show xpad m c b (o + 1 * (y 1).val) ((xR ![sl, o, 0] inb).emb y 2) = xpad m c b (o + (y 1).val) (y 2)
    rw [Nat.one_mul]
    congr 1
    exact Fin.ext (by show 0 + 1 * (y 2).val = (y 2).val; omega)
  rw [← e]
  exact wp_load 𝒱₀ (c : Thread nD τ) none Set.univ (m := M0) (S := slot sl) ((sub_of_eq Finset.map_refl).trans (set_dstX inb o hoff))

theorem ldk (c : Dev nD) (t : Fin 4) {off : Fin 2 → ℕ} {inb : ∀ a, off a + S1x512.size a ≤ S4x512.size a} (hoff : off = ![t.val, 0])
    {h1 : MK.view.LoadsAt (Rect.unit (s := S4x512) off S1x512.size inb).toLoadRect}
    {α : Type} {Q : α → sProp 𝕄} {k : Vec F S1x512 .f32 → Prog (TpuEff nD τ sig (Elt F) Λ₀ .tc) α} :
    pt cc0_stg0_0 c Finset.univ fullShare (karr m c)
      ⊢ iprop((pt cc0_stg0_0 c Finset.univ fullShare (karr m c) -∗ WPc c (k (kv m c t)) Q)
          -∗ WPc c (.op (.load MK (Rect.unit (s := S4x512) off S1x512.size inb).toLoadRect h1) k) Q) := by
  have e : MK.view.readAt (Elt F) (Rect.unit (s := S4x512) off S1x512.size inb).toLoadRect (karr m c) = kv m c t := by
    subst hoff
    funext y
    show karr m c ((Rect.unit (s := S4x512) ![t.val, 0] S1x512.size inb).emb y) = karr m c (ik t (y 1))
    congr 1
    funext a
    match a with
    | ⟨0, _⟩ => exact Fin.ext (by show t.val + 1 * (y 0).val = t.val; have : (y 0).val < 1 := (y 0).isLt; omega)
    | ⟨1, _⟩ => exact Fin.ext (by show 0 + 1 * (y 1).val = (y 1).val; omega)
  rw [← e]
  exact wp_load 𝒱₀ (c : Thread nD τ) none Set.univ (m := MK) (S := Finset.univ) (Finset.subset_univ _)

theorem ldw (c : Dev nD) {off : Fin 2 → ℕ} {inb : ∀ a, off a + S512x512.size a ≤ S512x512.size a} (hoff : off = ![0, 0])
    {h1 : MW.view.LoadsAt (Rect.unit (s := S512x512) off S512x512.size inb).toLoadRect}
    {α : Type} {Q : α → sProp 𝕄} {k : Vec F S512x512 .f32 → Prog (TpuEff nD τ sig (Elt F) Λ₀ .tc) α} :
    pt cc0_stg1_0 c Finset.univ fullShare (warr m c)
      ⊢ iprop((pt cc0_stg1_0 c Finset.univ fullShare (warr m c) -∗ WPc c (k (warr m c)) Q)
          -∗ WPc c (.op (.load MW (Rect.unit (s := S512x512) off S512x512.size inb).toLoadRect h1) k) Q) := by
  have e : MW.view.readAt (Elt F) (Rect.unit (s := S512x512) off S512x512.size inb).toLoadRect (warr m c) = warr m c := by
    subst hoff
    funext y
    show warr m c ((Rect.unit (s := S512x512) ![0, 0] S512x512.size inb).emb y) = warr m c y
    congr 1
    funext a
    match a with
    | ⟨0, _⟩ => exact Fin.ext (by show 0 + 1 * (y 0).val = (y 0).val; omega)
    | ⟨1, _⟩ => exact Fin.ext (by show 0 + 1 * (y 1).val = (y 1).val; omega)
  have h : pt cc0_stg1_0 c Finset.univ fullShare (warr m c)
      ⊢ iprop((pt cc0_stg1_0 c Finset.univ fullShare (warr m c) -∗ WPc c (k (MW.view.readAt (Elt F) (Rect.unit (s := S512x512) off S512x512.size inb).toLoadRect (warr m c))) Q)
          -∗ WPc c (.op (.load MW (Rect.unit (s := S512x512) off S512x512.size inb).toLoadRect h1) k) Q) :=
    wp_load 𝒱₀ (c : Thread nD τ) none Set.univ (m := MW) (S := Finset.univ) (Finset.subset_univ _)
  rw [e] at h
  exact h

end X

/-! ## The partial product, batch by batch -/

/-- Rows `lo` and after of the partial product's buffer, once `n` batches are stored. -/
def PB (c : Dev nD) (lo n : ℕ) : sProp 𝕄 :=
  iprop(∃ f : CB (F := F), pt cc0_scratch1 c (rows lo (4096 - lo)) fullShare (fun i => if (i 0).val < 1024 * n then Pc m c i else f i))

/-- What a batch's store leaves. -/
theorem blk_eq {c : Dev nD} {S : Finset S4096x512.Idx} (b : Fin 4) {off : Fin 2 → ℕ} {inb : ∀ a, off a + S1024x512.size a ≤ S4096x512.size a} (hoff : off = ![1024 * b.val, 0])
    (f : CB (F := F)) : ∀ i ∈ S, (M1.access (rU (n := 1024) inb)).write (Elt F) (fun i => if (i 0).val < 1024 * b.val then Pc m c i else f i) (blk m c b) Finset.univ i
      = if (i 0).val < 1024 * (b.val + 1) then Pc m c i else f i := by
  intro i _
  have hb : b.val < 4 := b.isLt
  by_cases h : i ∈ rows (1024 * b.val) 1024
  · obtain ⟨j, e⟩ := ix_of_mem h
    have h' := mem_rows.mp h
    have hj := j.isLt
    have e0 : (i 0).val = 1024 * b.val + j.val := by
      rw [e]
      show (1024 * b.val + j.val) % 4096 = _
      exact Nat.mod_eq_of_lt (by omega)
    have ew := wr1 (n := 1024) inb hoff (fun i => if (i 0).val < 1024 * b.val then Pc m c i else f i) (blk m c b) j (i 1)
    rw [← e] at ew
    refine ew.trans ?_
    rw [if_pos (by omega)]
    exact (congrArg₂ (fun (x : Fin 4) (y : Fin 1024) => blk m c x (jx (n := 1024) y (i 1))) (Fin.ext (by show (i 0).val / 1024 = b.val; omega))
      (Fin.ext (by show (i 0).val % 1024 = j.val; omega))).symm
  · refine (wr1_off (n := 1024) inb hoff _ _ h).trans ?_
    rw [mem_rows] at h
    by_cases h2 : (i 0).val < 1024 * b.val
    · rw [if_pos h2, if_pos (by omega)]
    · rw [if_neg h2, if_neg (by omega)]

theorem st_blk (c : Dev nD) (lo : ℕ) (b : Fin 4) {n n' : ℕ} (hn : n = b.val) (hn' : n' = b.val + 1) (hlo : lo ≤ 1024 * b.val) {off : Fin 2 → ℕ}
    {inb : ∀ a, off a + S1024x512.size a ≤ S4096x512.size a} (hoff : off = ![1024 * b.val, 0])
    {h1 : M1.view.LoadsAt (rU (n := 1024) inb).toLoadRect}
    {h4 : (M1.access (rU (n := 1024) inb)).Stores Finset.univ} {h5 : (Finset.univ : Finset (rU (n := 1024) inb).shape.Idx) = Finset.univ ∨ ∀ a, (rU (n := 1024) inb).stride a = 1}
    (w : Vec F S1024x512 .bf16) (hw : w = blk m c b)
    {α : Type} {Q : α → sProp 𝕄} {k : PUnit → Prog (TpuEff nD τ sig (Elt F) Λ₀ .tc) α} :
    PB m c lo n
      ⊢ iprop((PB m c lo n' -∗ WPc c (k ⟨⟩) Q)
          -∗ WPc c (.op (.load M1 (rU (n := 1024) inb).toLoadRect h1) fun _ => .op (.store M1 (rU (n := 1024) inb) w Finset.univ h4 h5) k) Q) := by
  subst hw hn hn'
  have hb : b.val < 4 := b.isLt
  have hsub : rows (1024 * b.val) 1024 ⊆ rows lo (4096 - lo) := rows_subset ⟨hlo, by omega⟩
  unfold PB
  iintro ⟨%f, H⟩ Hk
  iapply (wp_load 𝒱₀ (c : Thread nD τ) none Set.univ (m := M1) (S := rows lo (4096 - lo)) ((sub_of_eq (on1 (n := 1024) inb hoff)).trans hsub)) $$ H
  iintro H
  iapply (wp_store 𝒱₀ (c : Thread nD τ) none Set.univ (m := M1) (r := rU (n := 1024) inb) (Mk := Finset.univ) (S := rows lo (4096 - lo))
    ((sub_of_eq ((View.setOn_univ _).trans (set1 (n := 1024) inb hoff))).trans hsub)) $$ H
  iintro H
  iapply Hk
  iexists f
  iapply (pt_congr (b := cc0_scratch1) (S := rows lo (4096 - lo)) (blk_eq m (c := c) (inb := inb) b hoff f)); iexact H

/-- A part whose rows are all stored is split off. -/
theorem pb_take (c : Dev nD) (p : Fin 3) (n : ℕ) (hn : Bs p + 8 * Ks p ≤ 1024 * n) :
    PB m c (Bs p) n ⊢ iprop(pt cc0_scratch1 c (rows (kb p c) (4 * Ks p)) fullShare (Pc m c) ∗ pt cc0_scratch1 c (rows (ob p c) (4 * Ks p)) fullShare (Pc m c) ∗ PB m c (Bs p + 8 * Ks p) n) := by
  have hB : Bs p + 8 * Ks p ≤ 4096 := by clear hn; revert p; decide
  unfold PB
  iintro ⟨%f, H⟩
  ihave H := (pt_split (b := cc0_scratch1) (S := rows (Bs p) (8 * Ks p)) (T := rows (Bs p + 8 * Ks p) (4096 - (Bs p + 8 * Ks p)))
    (rows_disjoint (Or.inl le_rfl)) (rows_union (Or.inl ⟨rfl, rfl⟩) (by omega))) $$ H
  icases H with ⟨H1, H2⟩
  ihave H1 := (pt_split (b := cc0_scratch1) (S := rows (kb p c) (4 * Ks p)) (T := rows (ob p c) (4 * Ks p))
    (rows_disjoint (by have := kb_lt p c; omega)) (rows_union (k := 4 * Ks p) (l := 4 * Ks p) (by have := kb_lt p c; omega) (by omega))) $$ H1
  icases H1 with ⟨H0, H1⟩
  have hc : ∀ lo, lo = kb p c ∨ lo = ob p c → ∀ i ∈ rows lo (4 * Ks p), (if (i 0).val < 1024 * n then Pc m c i else f i) = Pc m c i := by
    intro lo hlo i hi
    rw [mem_rows] at hi
    have := kb_lt p c
    exact if_pos (by omega)
  isplitl [H0]; · iapply (pt_congr (b := cc0_scratch1) (hc _ (Or.inl rfl))); iexact H0
  isplitl [H1]; · iapply (pt_congr (b := cc0_scratch1) (hc _ (Or.inr rfl))); iexact H1
  iexists f; iexact H2

/-! ## The barrier -/

abbrev owB (c : Dev nD) (l : List (GSem nD τ sig × ℕ)) : sProp 𝕄 := iprop(∃ W, owes (c : Thread nD τ) (debt l) W)

theorem wp_done (c : Dev nD) {α : Type} {Q : α → sProp 𝕄} (a : α) : Q a ⊢ WPc c (.ret a) Q := by
  show Q a ⊢ wp _ _ _ _ _
  rw [wp_ret]
  iintro H; imodintro; iexact H

theorem signal_step (c n : Dev nD) (μ : Fin 3) (l : List (GSem nD τ sig × ℕ)) (hn : n = par μ c)
    {α : Type} {Q : α → sProp 𝕄} {sm : Sem sig} (hS : sm = barS) {k : PUnit → Prog (TpuEff nD τ sig (Elt F) Λ₀ .tc) α} :
    iprop(env m K ∗ dutyTok ER (barCell (par μ c)) 0 μ ∗ give (F := F) μ c ∗ owB (F := F) c (dB c μ :: l))
      ⊢ iprop((owB (F := F) c l -∗ WPc c (k ⟨⟩) Q) -∗ WPc c (.op (.semSignal (n, Proc.tc) sm (1#32 : BitVec 32).toInt) k) Q) := by
  subst hn hS
  iintro ⟨#HE, Ht, HG, ⟨%W, HO⟩⟩ Hk
  ihave HI := env_inv m K (par μ c) none $$ HE
  icases HI with ⟨#HI1, #Hr1⟩
  iapply (Rounds.wp_signal 𝒱₀ ER (Rd (F := F) m) (c : Thread nD τ) none (dst := (par μ c : Thread nD τ)) (κ := K (par μ c, none)) (d := μ)
      (by rw [duties_bar]; exact Finset.mem_univ _) ((amount_bar m (par μ c) μ).trans (by decide)) () (debt l) rfl) $$ [Ht HG HO]
  · isplitr; · iexact HI1
    isplitl [HO]; · iexact HO
    isplitl [Ht]; · iexact Ht
    isplitl [HG]; · rw [payload_bar]; unfold barPay; rw [par_par]; iexact HG
    iexact Hr1
  iintro HO
  iapply Hk
  iexists W; iexact HO

/-- The right to wait on the barrier. -/
def barR (c : Dev nD) : sProp 𝕄 := iprop(atPos ER (barCell c) 0 (∅ : Finset (Fin 3)) 0 ∗ cred (tallyAt (barCell c) () 3))

theorem bar_wait (c : Dev nD) {α : Type} {Q : α → sProp 𝕄} {sm : Sem sig} (hS : sm = barS) {k : PUnit → Prog (TpuEff nD τ sig (Elt F) Λ₀ .tc) α} :
    iprop(env m K ∗ barR (F := F) c ∗ ow (F := F) c 0)
      ⊢ iprop((iprop(semVal (barCell c) 0 ∗ barPay (F := F) 0 c ∗ barPay (F := F) 1 c ∗ barPay (F := F) 2 c ∗ ow (F := F) c 0) -∗ WPc c (k ⟨⟩) Q)
          -∗ WPc c (.op (.semWait sm (3#32 : BitVec 32).toInt) k) Q) := by
  subst hS
  unfold barR ow
  iintro ⟨#HE, ⟨HA, Hc⟩, ⟨%W, HO⟩⟩ Hk
  ihave HI := env_inv m K c none $$ HE
  icases HI with ⟨#HI1, #Hr1⟩
  iapply (Rounds.wp_wait_rest_token 𝒱₀ ER (Rd (F := F) m) (c : Thread nD τ) none (κ := K (c, none))
      (wpE_semWait_eq 𝒱₀ (c : Thread nD τ) none Set.univ) (Set.mem_univ _) () (O := debt (owedR c 0)) (W := W) (R := 0) (m := 0) (T := ∅)
      (by rw [expect_bar]; decide)) $$ [Hc HO HA]
  · isplitr; · iexact HI1
    isplitl [Hc]; · iexact Hc
    isplitl [HO]; · iexact HO
    isplitr
    · iapply (mayWait_owed c (.reg barS) 0 (fun x _ => by rw [lvl_bar]; exact Nat.succ_lt_succ (Nat.succ_pos _)))
      iapply (env_lev m K); iexact HE
    iexact HA
  iintro ⟨HO, HA, -, Hpay⟩
  ihave Hpay := (Entails.of_eq (rest_bar m c)) $$ Hpay
  icases Hpay with ⟨H0, H1, H2⟩
  imod (Rounds.cell_close ER (Rd (F := F) m) (Set.mem_univ (K (c, none))) (fun h => h) (R := 0 + 1) (duties_later m (barCell c))) $$ [HA] with HZ
  · isplitr; · iexact HI1
    iexact HA
  iapply Hk
  isplitl [HZ]; · iexact HZ
  isplitl [H0]; · iexact H0
  isplitl [H1]; · iexact H1
  isplitl [H2]; · iexact H2
  iexists _; iexact HO

end Cert.KProof
-- ==== Proof.Steps4.lean ====
/-
# A part's course

What a device holds of one part of the rows at each point of its five exchanges, and the steps
from one point to the next.
-/
module

public import proofs.«01_k».proof.Proof.Steps3

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## How far a part has come

Part `p` of the rows goes through five exchanges. Each state below names what the device holds of
the part at one point: what is finished, what is under way, what is still to come. -/

abbrev trX (p : Fin 3) (s : Fin 5) (c : Dev nD) : sProp 𝕄 := iprop(trT (F := F) p s c ∗ trA (F := F) p s c)
abbrev trZ (p : Fin 3) (s : Fin 5) (c : Dev nD) : sProp 𝕄 := iprop(semVal (sendCell p s c) 0 ∗ semVal (recvCell p s c) 0)
abbrev accH (p : Fin 3) (c : Dev nD) (q : PosShare TreeShare) : sProp 𝕄 := pt cc0_scratch2 c (rows (kb p c) (4 * Ks p)) q (OH m p c)
abbrev accE (p : Fin 3) (c : Dev nD) (A : CB (F := F)) : sProp 𝕄 := pt cc0_scratch2 c (rows (rb p c) (2 * Ks p)) fullShare A
def lent (p : Fin 3) (c : Dev nD) : sProp 𝕄 := iprop(∃ f : CB (F := F), pt cc0_scratch2 (peer p 1 c) (rows (rb p c) (2 * Ks p)) fullShare f)
def jk (p : Fin 3) : Fin 6 := ⟨2 * p.val, by have := p.isLt; omega⟩
def jo (p : Fin 3) : Fin 6 := ⟨2 * p.val + 1, by have := p.isLt; omega⟩

/-- Where a half of the part goes in the end: its staging rows, its result rows, its semaphore. -/
abbrev outE (c : Dev nD) (j : Fin 6) (lo n : ℕ) : sProp 𝕄 := iprop(any (F := F) cc0_scratch4 c (rows lo n) ∗ any (F := F) main_v1 c (rows lo n) ∗ cZ (F := F) c j)
abbrev outS (c : Dev nD) (j : Fin 6) (lo n : ℕ) : sProp 𝕄 := iprop(pt cc0_scratch4 c (rows lo n) fullShare (OUT m c) ∗ any (F := F) main_v1 c (rows lo n) ∗ cZ (F := F) c j)
abbrev outD (c : Dev nD) (j : Fin 6) (lo n : ℕ) : sProp 𝕄 :=
  iprop(pt main_v1 c (rows lo n) fullShare (OUT m c) ∗ pt cc0_scratch4 c (rows lo n) fullShare (OUT m c) ∗ cZ (F := F) c j)

/-- Still to come from exchange 4, 3, 2, 1, 0. -/
def rest4 (p : Fin 3) (c : Dev nD) : sProp 𝕄 :=
  iprop(trX (F := F) p 4 c ∗ trR (F := F) p 4 c ∗ away (F := F) p (peer p 0 c) ∗ outE (F := F) c (jk p) (kb p c) (4 * Ks p) ∗ outE (F := F) c (jo p) (ob p c) (4 * Ks p))
def rest3 (p : Fin 3) (c : Dev nD) : sProp 𝕄 := iprop(trX (F := F) p 3 c ∗ trR (F := F) p 3 c ∗ rest4 (F := F) p c)
def rest2 (p : Fin 3) (c : Dev nD) : sProp 𝕄 := iprop(trX (F := F) p 2 c ∗ trR (F := F) p 2 c ∗ land (F := F) p 2 (2 * Ks p) (peer p 2 c) ∗ rest3 (F := F) p c)
def rest1 (p : Fin 3) (c : Dev nD) : sProp 𝕄 := iprop(trX (F := F) p 1 c ∗ trR (F := F) p 1 c ∗ land (F := F) p 1 (2 * Ks p) (peer p 1 c) ∗ rest2 (F := F) p c)
def rest0 (p : Fin 3) (c : Dev nD) : sProp 𝕄 := iprop(trX (F := F) p 0 c ∗ trR (F := F) p 0 c ∗ land (F := F) p 0 (4 * Ks p) (peer p 0 c) ∗ rest1 (F := F) p c)

/-- Finished with exchange 0, 1, 2, 3, 4. -/
def done0 (p : Fin 3) (c : Dev nD) : sProp 𝕄 :=
  iprop(trZ (F := F) p 0 c ∗ any (F := F) cc0_scratch1 c (rows (kb p c) (4 * Ks p)) ∗ any (F := F) cc0_scratch1 c (rows (ob p c) (4 * Ks p)) ∗ land (F := F) p 0 (4 * Ks p) c)
def done1 (p : Fin 3) (c : Dev nD) : sProp 𝕄 := iprop(done0 (F := F) p c ∗ trZ (F := F) p 1 c ∗ land (F := F) p 1 (2 * Ks p) c)
def done2 (p : Fin 3) (c : Dev nD) : sProp 𝕄 := iprop(done1 (F := F) p c ∗ trZ (F := F) p 2 c ∗ land (F := F) p 2 (2 * Ks p) c)
def done3 (p : Fin 3) (c : Dev nD) : sProp 𝕄 := iprop(done2 (F := F) p c ∗ trZ (F := F) p 3 c)
def done4 (p : Fin 3) (c : Dev nD) : sProp 𝕄 := iprop(done3 (F := F) p c ∗ trZ (F := F) p 4 c)

def Z0 (p : Fin 3) (c : Dev nD) : sProp 𝕄 :=
  iprop(pt cc0_scratch1 c (rows (kb p c) (4 * Ks p)) fullShare (Pc m c) ∗ pt cc0_scratch1 c (rows (ob p c) (4 * Ks p)) fullShare (Pc m c)
    ∗ any (F := F) cc0_scratch2 c (rows (kb p c) (4 * Ks p)) ∗ rest0 (F := F) p c)
def Z1 (p : Fin 3) (c : Dev nD) : sProp 𝕄 :=
  iprop(pt cc0_scratch1 c (rows (kb p c) (4 * Ks p)) fullShare (Pc m c) ∗ any (F := F) cc0_scratch2 c (rows (kb p c) (4 * Ks p))
    ∗ trS (F := F) p 0 c ∗ trR (F := F) p 0 c ∗ rest1 (F := F) p c)
def Z2 (p : Fin 3) (c : Dev nD) : sProp 𝕄 :=
  iprop(done0 (F := F) p c ∗ accE p c (A1 m p c) ∗ pt cc0_scratch2 c (rows (sb p c) (2 * Ks p)) fullShare (A1 m p c) ∗ rest1 (F := F) p c)
def Z3 (p : Fin 3) (c : Dev nD) : sProp 𝕄 :=
  iprop(done0 (F := F) p c ∗ accE p c (A1 m p c) ∗ trS (F := F) p 1 c ∗ trR (F := F) p 1 c ∗ rest2 (F := F) p c)
def Z4 (p : Fin 3) (c : Dev nD) : sProp 𝕄 :=
  iprop(done0 (F := F) p c ∗ accE p c (A1 m p c) ∗ semVal (sendCell p 1 c) 0 ∗ trR (F := F) p 1 c ∗ rest2 (F := F) p c)
def Z5 (p : Fin 3) (c : Dev nD) : sProp 𝕄 :=
  iprop(done0 (F := F) p c ∗ accE p c (A1 m p c) ∗ trZ (F := F) p 1 c ∗ recvPay m p 1 c ∗ rest2 (F := F) p c)
def Z6 (p : Fin 3) (c : Dev nD) : sProp 𝕄 := iprop(done1 (F := F) p c ∗ accE p c (A2 m p c) ∗ lent (F := F) p c ∗ rest2 (F := F) p c)
def Z7 (p : Fin 3) (c : Dev nD) : sProp 𝕄 := iprop(done1 (F := F) p c ∗ lent (F := F) p c ∗ trS (F := F) p 2 c ∗ trR (F := F) p 2 c ∗ rest3 (F := F) p c)
def Z8 (p : Fin 3) (c : Dev nD) : sProp 𝕄 := iprop(done2 (F := F) p c ∗ accE p c (A3 m p c) ∗ lent (F := F) p c ∗ rest3 (F := F) p c)
def Z9 (p : Fin 3) (c : Dev nD) : sProp 𝕄 := iprop(done2 (F := F) p c ∗ trS (F := F) p 3 c ∗ trR (F := F) p 3 c ∗ rest4 (F := F) p c)
def Z10 (p : Fin 3) (c : Dev nD) : sProp 𝕄 := iprop(done3 (F := F) p c ∗ accH m p c fullShare.left ∗ accH m p c fullShare.right ∗ rest4 (F := F) p c)
def Z11 (p : Fin 3) (c : Dev nD) : sProp 𝕄 :=
  iprop(done3 (F := F) p c ∗ accH m p c fullShare.right ∗ trS (F := F) p 4 c ∗ trR (F := F) p 4 c
    ∗ outE (F := F) c (jk p) (kb p c) (4 * Ks p) ∗ outE (F := F) c (jo p) (ob p c) (4 * Ks p))
def Z12 (p : Fin 3) (c : Dev nD) : sProp 𝕄 :=
  iprop(done3 (F := F) p c ∗ accH m p c fullShare.right ∗ trS (F := F) p 4 c ∗ trR (F := F) p 4 c
    ∗ outS m c (jk p) (kb p c) (4 * Ks p) ∗ outE (F := F) c (jo p) (ob p c) (4 * Ks p))
def Z13 (p : Fin 3) (c : Dev nD) : sProp 𝕄 :=
  iprop(done3 (F := F) p c ∗ accH m p c fullShare.right ∗ trS (F := F) p 4 c ∗ trR (F := F) p 4 c
    ∗ OF m c (jk p) (kb p c) (4 * Ks p) ∗ outE (F := F) c (jo p) (ob p c) (4 * Ks p))
def Z14 (p : Fin 3) (c : Dev nD) : sProp 𝕄 :=
  iprop(done3 (F := F) p c ∗ any (F := F) cc0_scratch2 c (rows (kb p c) (4 * Ks p)) ∗ semVal (sendCell p 4 c) 0 ∗ trR (F := F) p 4 c
    ∗ OF m c (jk p) (kb p c) (4 * Ks p) ∗ outE (F := F) c (jo p) (ob p c) (4 * Ks p))
def Z15 (p : Fin 3) (c : Dev nD) : sProp 𝕄 :=
  iprop(done4 (F := F) p c ∗ any (F := F) cc0_scratch2 c (rows (kb p c) (4 * Ks p)) ∗ recvPay m p 4 c
    ∗ OF m c (jk p) (kb p c) (4 * Ks p) ∗ outE (F := F) c (jo p) (ob p c) (4 * Ks p))
def Z16 (p : Fin 3) (c : Dev nD) : sProp 𝕄 :=
  iprop(done4 (F := F) p c ∗ any (F := F) cc0_scratch2 c (rows (kb p c) (4 * Ks p)) ∗ recvPay m p 4 c
    ∗ OF m c (jk p) (kb p c) (4 * Ks p) ∗ outS m c (jo p) (ob p c) (4 * Ks p))
def Z17 (p : Fin 3) (c : Dev nD) : sProp 𝕄 :=
  iprop(done4 (F := F) p c ∗ any (F := F) cc0_scratch2 c (rows (kb p c) (4 * Ks p)) ∗ recvPay m p 4 c
    ∗ OF m c (jk p) (kb p c) (4 * Ks p) ∗ OF m c (jo p) (ob p c) (4 * Ks p))
def Z18 (p : Fin 3) (c : Dev nD) : sProp 𝕄 :=
  iprop(done4 (F := F) p c ∗ any (F := F) cc0_scratch2 c (rows (kb p c) (4 * Ks p)) ∗ recvPay m p 4 c
    ∗ outD m c (jk p) (kb p c) (4 * Ks p) ∗ OF m c (jo p) (ob p c) (4 * Ks p))
def Z19 (p : Fin 3) (c : Dev nD) : sProp 𝕄 :=
  iprop(done4 (F := F) p c ∗ any (F := F) cc0_scratch2 c (rows (kb p c) (4 * Ks p)) ∗ recvPay m p 4 c
    ∗ outD m c (jk p) (kb p c) (4 * Ks p) ∗ outD m c (jo p) (ob p c) (4 * Ks p))

/-! ## The rows of a part -/

theorem part_rows (p : Fin 3) (c : Dev nD) {i : S4096x512.Idx} (h : i ∈ rows (kb p c) (4 * Ks p) ∨ i ∈ rows (ob p c) (4 * Ks p)) : partOf i = p := by
  simp only [mem_rows] at h
  have h' := kb_lt p c
  unfold partOf
  match p, h, h' with
  | 0, h, h' =>
    have e : Bs 0 = 0 := rfl
    have e' : Ks 0 = 176 := rfl
    rw [if_pos (by omega)]
  | 1, h, h' =>
    have e : Bs 1 = 1408 := rfl
    have e' : Ks 1 = 176 := rfl
    rw [if_neg (by omega), if_pos (by omega)]
  | 2, h, h' =>
    have e : Bs 2 = 2816 := rfl
    have e' : Ks 2 = 160 := rfl
    rw [if_neg (by omega), if_neg (by omega)]

theorem out_kb (p : Fin 3) (c : Dev nD) : ∀ i ∈ rows (kb p c) (4 * Ks p), extE (OH m p c i) = OUT m c i := by
  intro i hi
  unfold OUT
  rw [part_rows p c (Or.inl hi)]
  unfold OB
  rw [if_pos hi]
theorem out_ob (p : Fin 3) (c : Dev nD) : ∀ i ∈ rows (ob p c) (4 * Ks p), extE (OH m p (peer p 0 c) i) = OUT m c i := by
  intro i hi
  unfold OUT
  rw [part_rows p c (Or.inr hi)]
  unfold OB
  rw [if_neg (by rw [mem_rows] at hi ⊢; have := kb_lt p c; omega)]

theorem kb_le (p : Fin 3) (c : Dev nD) : kb p c + 4 * Ks p ≤ 4096 := by revert p c; decide +kernel
theorem ob_le (p : Fin 3) (c : Dev nD) : ob p c + 4 * Ks p ≤ 4096 := by revert p c; decide +kernel

theorem half_disjoint (p : Fin 3) (c : Dev nD) : Disjoint (rows (rb p c) (2 * Ks p)) (rows (sb p c) (2 * Ks p)) := rows_disjoint (by have := rb_lt p c; omega)
theorem half_union (p : Fin 3) (c : Dev nD) : rows (kb p c) (4 * Ks p) = rows (rb p c) (2 * Ks p) ∪ rows (sb p c) (2 * Ks p) :=
  rows_union (by have := rb_lt p c; omega) (by omega)

/-- The two halves of the kept rows, once the third exchange is back, are the kept half of the sum. -/
theorem join3 (p : Fin 3) (c : Dev nD) : iprop(sendPay m p 3 c ∗ recvPay m p 3 c) ⊢ iprop(accH m p c fullShare.left ∗ accH m p c fullShare.right) := by
  unfold sendPay recvPay
  iintro ⟨H1, H2⟩
  ihave H1 := (pt_congr (b := cc0_scratch2) (S := rows (rb p c) (2 * Ks p)) (g := OH m p c) (fun i hi => (if_pos hi).symm)) $$ H1
  ihave H2 := (pt_congr (b := cc0_scratch2) (S := rows (sb p c) (2 * Ks p)) (g := OH m p c)
    (fun i hi => (if_neg (Finset.disjoint_right.mp (half_disjoint p c) hi)).symm)) $$ H2
  iapply (pointsTo_share (PosShare.mem_left_op_right fullShare)).1
  iapply (pt_join (half_disjoint p c) (half_union p c))
  isplitl [H1]; · iexact H1
  iexact H2

/-! ## The steps -/

section Steps
variable {N : ℕ} {off off' : Fin 2 → ℕ} {inb : ∀ a, off a + (Sn N).size a ≤ S4096x512.size a} {inb' : ∀ a, off' a + (Sn N).size a ≤ S4096x512.size a}

theorem go0 (c n : Dev nD) (p : Fin 3) (i : ℕ) (hn : n = peer p 0 c) (hi : owedR c i = dR c p 0 :: owedR c (i + 1))
    (hN : N = 4 * Ks p) (hoff : off = ![ob p c, 0]) (hoff' : off' = ![soff p 0, 0]) {sS sR : DmaSem sig} (hS : sS = sendS p 0) (hR : sR = recvS p 0)
    {hsc : (M3.slice (rU inb') (fun _ => rfl)).view.ref.isScScratch = false} {hsrc : (M1.slice (rU inb) (fun _ => rfl)).view.WordExact} {hdst : (M3.slice (rU inb') (fun _ => rfl)).view.WordExact}
    {hsem : DmaTarget.Typed .vmem (.dma sR) (.remote (Dev.tc n : Thread nD τ) (M3.slice (rU inb') (fun _ => rfl)) (.dma sS) hsc)}
    {α : Type} {Q : α → sProp 𝕄} {k : PUnit → Prog (TpuEff nD τ sig (Elt F) Λ₀ .tc) α} :
    env m K ⊢ iprop(Z0 m p c -∗ ow (F := F) c i -∗ (Z1 m p c -∗ ow (F := F) c (i + 1) -∗ WPc c (k ⟨⟩) Q)
          -∗ WPc c (.op (.enqueueDma (M1.slice (rU inb) (fun _ => rfl)) (.remote (Dev.tc n : Thread nD τ) (M3.slice (rU inb') (fun _ => rfl)) (.dma sS) hsc) (.dma sR) hsrc hdst hsem) k) Q) := by
  unfold Z0 rest0 Z1
  iintro HE ⟨H1, H2, H3, ⟨HT, HA⟩, HR, HL, HN⟩ HO Hk
  iapply (send_T0 m K c n p i hn hi hN hoff hoff' hS hR) $$ [HE HT HA H2 HL HO]
  · isplitl [HE]; · iexact HE
    isplitl [HT]; · iexact HT
    isplitl [HA]; · iexact HA
    isplitl [H2]; · iexact H2
    isplitl [HL]; · iexact HL
    iexact HO
  iintro ⟨HS, HO⟩
  iapply Hk $$ [H1 H3 HS HR HN] HO
  isplitl [H1]; · iexact H1
  isplitl [H3]; · iexact H3
  isplitl [HS]; · iexact HS
  isplitl [HR]; · iexact HR
  iexact HN

/-- The first exchange ends, and its sum. -/
theorem end0 (c : Dev nD) (p : Fin 3) (i : ℕ) (hi : ∀ x ∈ xfers.drop i, (0 : Fin 5).val < x.2.val) {sS sR : DmaSem sig} (hS : sS = sendS p 0) (hR : sR = recvS p 0)
    (hN : N = 4 * Ks p) (hoff : off = ![kb p c, 0]) (hoff' : off' = ![soff p 0, 0])
    {sp sp' sp2 sp2' : Space} {S S' S2 S2' : Shape} {e e' e2 e2' : EltTy} {κ' κ2 : Kind}
    {a : Memref sig .tc sp' S' e'} {b : Memref sig κ' sp S e} (hb : b.view.dmaCredit = crd p 0) {a2 : Memref sig .tc sp2' S2' e2'} {b2 : Memref sig κ2 sp2 S2 e2} (hb2 : b2.view.dmaCredit = crd p 0)
    {g1 : a.view.WordExact} {g2 : b.view.WordExact} {g3 : a2.view.WordExact} {g4 : b2.view.WordExact}
    {h1 : M1.view.LoadsAt (rU inb).toLoadRect} {h2 : M3.view.LoadsAt (rU inb').toLoadRect} {h3 : M2.view.LoadsAt (rU inb).toLoadRect}
    {h4 : (M2.access (rU inb)).Stores Finset.univ} {h5 : (Finset.univ : Finset (rU inb).shape.Idx) = Finset.univ ∨ ∀ a, (rU inb).stride a = 1}
    (w : Vec F (Sn N) .bf16 → Vec F (Sn N) .bf16 → Vec F (Sn N) .bf16) (hw : ∀ a b y, w a b y = addE (F := F) (a y) (b y))
    {α : Type} {Q : α → sProp 𝕄} {k : PUnit → Prog (TpuEff nD τ sig (Elt F) Λ₀ .tc) α} :
    env m K ⊢ iprop(Z1 m p c -∗ ow (F := F) c i -∗ (Z2 m p c -∗ ow (F := F) c i -∗ WPc c (k ⟨⟩) Q)
      -∗ WPc c (.op (.waitDma2 sS a b g1 g2) fun _ => .op (.waitDma2 sR a2 b2 g3 g4) fun _ =>
          .op (.load M1 (rU inb).toLoadRect h1) fun a => .op (.load M3 (rU inb').toLoadRect h2) fun b => .op (.load M2 (rU inb).toLoadRect h3) fun _ =>
            .op (.store M2 (rU inb) (w a b) Finset.univ h4 h5) k) Q) := by
  subst hN
  unfold Z1 Z2
  iintro #HE ⟨H1, H2, HS, HR, HN⟩ HO Hk
  iapply (wait_send m K c p 0 i hS hb) $$ [HS HO]
  · isplitr; · iexact HE
    isplitl [HS]; · iexact HS
    iexact HO
  iintro ⟨HzS, Hob, HO⟩
  iapply (wait_recv m K c p 0 i hi hR hb2) $$ [HR HO]
  · isplitr; · iexact HE
    isplitl [HR]; · iexact HR
    iexact HO
  unfold sendPay recvPay
  iintro ⟨HzR, ⟨%f, %hL, HL⟩, HO⟩
  iapply (sum1 c hoff hoff' (Pc m c) (Pc m (peer p 0 c)) f w hw hL) $$ [H1 HL H2]
  · isplitl [H1]; · iexact H1
    isplitl [HL]; · iexact HL
    iexact H2
  iintro ⟨H1, HL, H2⟩
  ihave H2 := (pt_split (b := cc0_scratch2) (half_disjoint p c) (half_union p c)) $$ H2
  icases H2 with ⟨Hr, Hs⟩
  iapply Hk $$ [HzS HzR Hob H1 HL Hr Hs HN] HO
  isplitl [HzS HzR Hob H1 HL]
  · unfold done0 land
    isplitl [HzS HzR]; · isplitl [HzS] <;> iassumption
    isplitl [H1]; · iapply (any_intro (b := cc0_scratch1)); iexact H1
    isplitl [Hob]; · iapply (any_intro (b := cc0_scratch1)); iexact Hob
    iexists f; iexact HL
  isplitl [Hr]; · iapply (pt_congr (b := cc0_scratch2) (fun _ _ => rfl)); iexact Hr
  isplitl [Hs]; · iapply (pt_congr (b := cc0_scratch2) (fun _ _ => rfl)); iexact Hs
  iexact HN

/-- The second exchange. -/
theorem go1 (c n : Dev nD) (p : Fin 3) (i : ℕ) (hn : n = peer p 1 c) (hi : owedR c i = dR c p 1 :: owedR c (i + 1))
    (hN : N = 2 * Ks p) (hoff : off = ![sb p c, 0]) (hoff' : off' = ![soff p 1, 0]) {sS sR : DmaSem sig} (hS : sS = sendS p 1) (hR : sR = recvS p 1)
    {hsc : (M3.slice (rU inb') (fun _ => rfl)).view.ref.isScScratch = false} {hsrc : (M2.slice (rU inb) (fun _ => rfl)).view.WordExact} {hdst : (M3.slice (rU inb') (fun _ => rfl)).view.WordExact}
    {hsem : DmaTarget.Typed .vmem (.dma sR) (.remote (Dev.tc n : Thread nD τ) (M3.slice (rU inb') (fun _ => rfl)) (.dma sS) hsc)}
    {α : Type} {Q : α → sProp 𝕄} {k : PUnit → Prog (TpuEff nD τ sig (Elt F) Λ₀ .tc) α} :
    env m K ⊢ iprop(Z2 m p c -∗ ow (F := F) c i -∗ (Z3 m p c -∗ ow (F := F) c (i + 1) -∗ WPc c (k ⟨⟩) Q)
          -∗ WPc c (.op (.enqueueDma (M2.slice (rU inb) (fun _ => rfl)) (.remote (Dev.tc n : Thread nD τ) (M3.slice (rU inb') (fun _ => rfl)) (.dma sS) hsc) (.dma sR) hsrc hdst hsem) k) Q) := by
  unfold Z2 rest1 Z3
  iintro HE ⟨HD, H1, H2, ⟨HT, HA⟩, HR, HL, HN⟩ HO Hk
  iapply (send_T1 m K c n p i hn hi hN hoff hoff' hS hR) $$ [HE HT HA H2 HL HO]
  · isplitl [HE]; · iexact HE
    isplitl [HT]; · iexact HT
    isplitl [HA]; · iexact HA
    isplitl [H2]; · iexact H2
    isplitl [HL]; · iexact HL
    iexact HO
  iintro ⟨HS, HO⟩
  iapply Hk $$ [HD H1 HS HR HN] HO
  isplitl [HD]; · iexact HD
  isplitl [H1]; · iexact H1
  isplitl [HS]; · iexact HS
  isplitl [HR]; · iexact HR
  iexact HN

theorem left1 (c : Dev nD) (p : Fin 3) (i : ℕ) {sS : DmaSem sig} (hS : sS = sendS p 1)
    {sp sp' : Space} {S S' : Shape} {e e' : EltTy} {κ' : Kind} {a : Memref sig .tc sp' S' e'} {b : Memref sig κ' sp S e} (hb : b.view.dmaCredit = crd p 1)
    {g1 : a.view.WordExact} {g2 : b.view.WordExact}
    {α : Type} {Q : α → sProp 𝕄} {k : PUnit → Prog (TpuEff nD τ sig (Elt F) Λ₀ .tc) α} :
    env m K ⊢ iprop(Z3 m p c -∗ ow (F := F) c i -∗ (Z4 m p c -∗ ow (F := F) c i -∗ WPc c (k ⟨⟩) Q) -∗ WPc c (.op (.waitDma2 sS a b g1 g2) k) Q) := by
  unfold Z3 Z4
  iintro HE ⟨HD, H1, HS, HR, HN⟩ HO Hk
  iapply (wait_send m K c p 1 i hS hb) $$ [HE HS HO]
  · isplitl [HE]; · iexact HE
    isplitl [HS]; · iexact HS
    iexact HO
  iintro ⟨HzS, -, HO⟩
  iapply Hk $$ [HD H1 HzS HR HN] HO
  isplitl [HD]; · iexact HD
  isplitl [H1]; · iexact H1
  isplitl [HzS]; · iexact HzS
  isplitl [HR]; · iexact HR
  iexact HN

theorem came1 (c : Dev nD) (p : Fin 3) (i : ℕ) (hi : ∀ x ∈ xfers.drop i, (1 : Fin 5).val < x.2.val) {sR : DmaSem sig} (hR : sR = recvS p 1)
    {sp sp' : Space} {S S' : Shape} {e e' : EltTy} {κ' : Kind} {a : Memref sig .tc sp' S' e'} {b : Memref sig κ' sp S e} (hb : b.view.dmaCredit = crd p 1)
    {g1 : a.view.WordExact} {g2 : b.view.WordExact}
    {α : Type} {Q : α → sProp 𝕄} {k : PUnit → Prog (TpuEff nD τ sig (Elt F) Λ₀ .tc) α} :
    env m K ⊢ iprop(Z4 m p c -∗ ow (F := F) c i -∗ (Z5 m p c -∗ ow (F := F) c i -∗ WPc c (k ⟨⟩) Q) -∗ WPc c (.op (.waitDma2 sR a b g1 g2) k) Q) := by
  unfold Z4 Z5
  iintro HE ⟨HD, H1, HzS, HR, HN⟩ HO Hk
  iapply (wait_recv m K c p 1 i hi hR hb) $$ [HE HR HO]
  · isplitl [HE]; · iexact HE
    isplitl [HR]; · iexact HR
    iexact HO
  iintro ⟨HzR, HP, HO⟩
  iapply Hk $$ [HD H1 HzS HzR HP HN] HO
  isplitl [HD]; · iexact HD
  isplitl [H1]; · iexact H1
  isplitl [HzS HzR]; · isplitl [HzS] <;> iassumption
  isplitl [HP]; · iexact HP
  iexact HN

theorem add1 (c : Dev nD) (p : Fin 3) (hN : N = 2 * Ks p) (hoff : off = ![rb p c, 0]) (hoff' : off' = ![soff p 1, 0])
    {h1 : M2.view.LoadsAt (rU inb).toLoadRect} {h2 : M3.view.LoadsAt (rU inb').toLoadRect} {h3 : M2.view.LoadsAt (rU inb).toLoadRect}
    {h4 : (M2.access (rU inb)).Stores Finset.univ} {h5 : (Finset.univ : Finset (rU inb).shape.Idx) = Finset.univ ∨ ∀ a, (rU inb).stride a = 1}
    (w : Vec F (Sn N) .bf16 → Vec F (Sn N) .bf16 → Vec F (Sn N) .bf16) (hw : ∀ a b y, w a b y = addE (F := F) (a y) (b y))
    {α : Type} {Q : α → sProp 𝕄} {k : PUnit → Prog (TpuEff nD τ sig (Elt F) Λ₀ .tc) α} :
    Z5 m p c ⊢ iprop((Z6 m p c -∗ WPc c (k ⟨⟩) Q)
      -∗ WPc c (.op (.load M2 (rU inb).toLoadRect h1) fun a => .op (.load M3 (rU inb').toLoadRect h2) fun b => .op (.load M2 (rU inb).toLoadRect h3) fun _ =>
            .op (.store M2 (rU inb) (w a b) Finset.univ h4 h5) k) Q) := by
  subst hN
  unfold Z5 Z6 recvPay
  iintro ⟨HD, H1, HZ, ⟨⟨%f, %hL, HL⟩, HT⟩, HN⟩ Hk
  iapply (sum2 c hoff hoff' (A1 m p c) (A1 m p (peer p 1 c)) f w hw hL) $$ [H1 HL]
  · isplitl [H1]; · iexact H1
    iexact HL
  iintro ⟨HL, H1⟩
  iapply Hk
  isplitl [HD HZ HL]
  · unfold done1 land
    isplitl [HD]; · iexact HD
    isplitl [HZ]; · iexact HZ
    iexists f; iexact HL
  isplitl [H1]; · iapply (pt_congr (b := cc0_scratch2) (fun _ _ => rfl)); iexact H1
  isplitl [HT]; · unfold lent; iexact HT
  iexact HN

/-- The third exchange. -/
theorem go2 (c n : Dev nD) (p : Fin 3) (i : ℕ) (hn : n = peer p 2 c) (hi : owedR c i = dR c p 2 :: owedR c (i + 1))
    (hN : N = 2 * Ks p) (hoff : off = ![rb p c, 0]) (hoff' : off' = ![soff p 2, 0]) {sS sR : DmaSem sig} (hS : sS = sendS p 2) (hR : sR = recvS p 2)
    {hsc : (M3.slice (rU inb') (fun _ => rfl)).view.ref.isScScratch = false} {hsrc : (M2.slice (rU inb) (fun _ => rfl)).view.WordExact} {hdst : (M3.slice (rU inb') (fun _ => rfl)).view.WordExact}
    {hsem : DmaTarget.Typed .vmem (.dma sR) (.remote (Dev.tc n : Thread nD τ) (M3.slice (rU inb') (fun _ => rfl)) (.dma sS) hsc)}
    {α : Type} {Q : α → sProp 𝕄} {k : PUnit → Prog (TpuEff nD τ sig (Elt F) Λ₀ .tc) α} :
    env m K ⊢ iprop(Z6 m p c -∗ ow (F := F) c i -∗ (Z7 p c -∗ ow (F := F) c (i + 1) -∗ WPc c (k ⟨⟩) Q)
          -∗ WPc c (.op (.enqueueDma (M2.slice (rU inb) (fun _ => rfl)) (.remote (Dev.tc n : Thread nD τ) (M3.slice (rU inb') (fun _ => rfl)) (.dma sS) hsc) (.dma sR) hsrc hdst hsem) k) Q) := by
  unfold Z6 rest2 Z7
  iintro HE ⟨HD, H1, HT', ⟨HT, HA⟩, HR, HL, HN⟩ HO Hk
  iapply (send_T2 m K c n p i hn hi hN hoff hoff' hS hR) $$ [HE HT HA H1 HL HO]
  · isplitl [HE]; · iexact HE
    isplitl [HT]; · iexact HT
    isplitl [HA]; · iexact HA
    isplitl [H1]; · iexact H1
    isplitl [HL]; · iexact HL
    iexact HO
  iintro ⟨HS, HO⟩
  iapply Hk $$ [HD HT' HS HR HN] HO
  isplitl [HD]; · iexact HD
  isplitl [HT']; · iexact HT'
  isplitl [HS]; · iexact HS
  isplitl [HR]; · iexact HR
  iexact HN

theorem end2 (c : Dev nD) (p : Fin 3) (i : ℕ) (hi : ∀ x ∈ xfers.drop i, (2 : Fin 5).val < x.2.val) {sS sR : DmaSem sig} (hS : sS = sendS p 2) (hR : sR = recvS p 2)
    (hN : N = 2 * Ks p) (hoff : off = ![rb p c, 0]) (hoff' : off' = ![soff p 2, 0])
    {sp sp' sp2 sp2' : Space} {S S' S2 S2' : Shape} {e e' e2 e2' : EltTy} {κ' κ2 : Kind}
    {a : Memref sig .tc sp' S' e'} {b : Memref sig κ' sp S e} (hb : b.view.dmaCredit = crd p 2) {a2 : Memref sig .tc sp2' S2' e2'} {b2 : Memref sig κ2 sp2 S2 e2} (hb2 : b2.view.dmaCredit = crd p 2)
    {g1 : a.view.WordExact} {g2 : b.view.WordExact} {g3 : a2.view.WordExact} {g4 : b2.view.WordExact}
    {h1 : M2.view.LoadsAt (rU inb).toLoadRect} {h2 : M3.view.LoadsAt (rU inb').toLoadRect} {h3 : M2.view.LoadsAt (rU inb).toLoadRect}
    {h4 : (M2.access (rU inb)).Stores Finset.univ} {h5 : (Finset.univ : Finset (rU inb).shape.Idx) = Finset.univ ∨ ∀ a, (rU inb).stride a = 1}
    (w : Vec F (Sn N) .bf16 → Vec F (Sn N) .bf16 → Vec F (Sn N) .bf16) (hw : ∀ a b y, w a b y = addE (F := F) (a y) (b y))
    {α : Type} {Q : α → sProp 𝕄} {k : PUnit → Prog (TpuEff nD τ sig (Elt F) Λ₀ .tc) α} :
    env m K ⊢ iprop(Z7 p c -∗ ow (F := F) c i -∗ (Z8 m p c -∗ ow (F := F) c i -∗ WPc c (k ⟨⟩) Q)
      -∗ WPc c (.op (.waitDma2 sS a b g1 g2) fun _ => .op (.waitDma2 sR a2 b2 g3 g4) fun _ =>
          .op (.load M2 (rU inb).toLoadRect h1) fun a => .op (.load M3 (rU inb').toLoadRect h2) fun b => .op (.load M2 (rU inb).toLoadRect h3) fun _ =>
            .op (.store M2 (rU inb) (w a b) Finset.univ h4 h5) k) Q) := by
  subst hN
  unfold Z7 Z8
  iintro #HE ⟨HD, HT, HS, HR, HN⟩ HO Hk
  iapply (wait_send m K c p 2 i hS hb) $$ [HS HO]
  · isplitr; · iexact HE
    isplitl [HS]; · iexact HS
    iexact HO
  iintro ⟨HzS, H1, HO⟩
  iapply (wait_recv m K c p 2 i hi hR hb2) $$ [HR HO]
  · isplitr; · iexact HE
    isplitl [HR]; · iexact HR
    iexact HO
  unfold sendPay recvPay
  iintro ⟨HzR, ⟨%f, %hL, HL⟩, HO⟩
  iapply (sum2 c hoff hoff' (A2 m p c) (A2 m p (peer p 2 c)) f w hw hL) $$ [H1 HL]
  · isplitl [H1]; · iexact H1
    iexact HL
  iintro ⟨HL, H1⟩
  iapply Hk $$ [HzS HzR HD HL H1 HT HN] HO
  isplitl [HzS HzR HD HL]
  · unfold done2 land
    isplitl [HD]; · iexact HD
    isplitl [HzS HzR]; · isplitl [HzS] <;> iassumption
    iexists f; iexact HL
  isplitl [H1]; · iapply (pt_congr (b := cc0_scratch2) (fun _ _ => rfl)); iexact H1
  isplitl [HT]; · iexact HT
  iexact HN

/-- The fourth. -/
theorem go3 (c n : Dev nD) (p : Fin 3) (i : ℕ) (hn : n = peer p 3 c) (hi : owedR c i = dR c p 3 :: owedR c (i + 1))
    (hN : N = 2 * Ks p) (hoff : off = ![rb p c, 0]) (hoff' : off' = ![rb p c, 0]) {sS sR : DmaSem sig} (hS : sS = sendS p 3) (hR : sR = recvS p 3)
    {hsc : (M2.slice (rU inb') (fun _ => rfl)).view.ref.isScScratch = false} {hsrc : (M2.slice (rU inb) (fun _ => rfl)).view.WordExact} {hdst : (M2.slice (rU inb') (fun _ => rfl)).view.WordExact}
    {hsem : DmaTarget.Typed .vmem (.dma sR) (.remote (Dev.tc n : Thread nD τ) (M2.slice (rU inb') (fun _ => rfl)) (.dma sS) hsc)}
    {α : Type} {Q : α → sProp 𝕄} {k : PUnit → Prog (TpuEff nD τ sig (Elt F) Λ₀ .tc) α} :
    env m K ⊢ iprop(Z8 m p c -∗ ow (F := F) c i -∗ (Z9 p c -∗ ow (F := F) c (i + 1) -∗ WPc c (k ⟨⟩) Q)
          -∗ WPc c (.op (.enqueueDma (M2.slice (rU inb) (fun _ => rfl)) (.remote (Dev.tc n : Thread nD τ) (M2.slice (rU inb') (fun _ => rfl)) (.dma sS) hsc) (.dma sR) hsrc hdst hsem) k) Q) := by
  unfold Z8 rest3 Z9 lent
  iintro HE ⟨HD, H1, HL, ⟨HT, HA⟩, HR, HN⟩ HO Hk
  iapply (send_T3 m K c n p i hn hi hN hoff hoff' hS hR) $$ [HE HT HA H1 HL HO]
  · isplitl [HE]; · iexact HE
    isplitl [HT]; · iexact HT
    isplitl [HA]; · iexact HA
    isplitl [H1]; · iexact H1
    isplitl [HL]; · iexact HL
    iexact HO
  iintro ⟨HS, HO⟩
  iapply Hk $$ [HD HS HR HN] HO
  isplitl [HD]; · iexact HD
  isplitl [HS]; · iexact HS
  isplitl [HR]; · iexact HR
  iexact HN

theorem end3 (c : Dev nD) (p : Fin 3) (i : ℕ) (hi : ∀ x ∈ xfers.drop i, (3 : Fin 5).val < x.2.val) {sS sR : DmaSem sig} (hS : sS = sendS p 3) (hR : sR = recvS p 3)
    {sp sp' sp2 sp2' : Space} {S S' S2 S2' : Shape} {e e' e2 e2' : EltTy} {κ' κ2 : Kind}
    {a : Memref sig .tc sp' S' e'} {b : Memref sig κ' sp S e} (hb : b.view.dmaCredit = crd p 3) {a2 : Memref sig .tc sp2' S2' e2'} {b2 : Memref sig κ2 sp2 S2 e2} (hb2 : b2.view.dmaCredit = crd p 3)
    {g1 : a.view.WordExact} {g2 : b.view.WordExact} {g3 : a2.view.WordExact} {g4 : b2.view.WordExact}
    {α : Type} {Q : α → sProp 𝕄} {k : PUnit → Prog (TpuEff nD τ sig (Elt F) Λ₀ .tc) α} :
    env m K ⊢ iprop(Z9 p c -∗ ow (F := F) c i -∗ (Z10 m p c -∗ ow (F := F) c i -∗ WPc c (k ⟨⟩) Q)
      -∗ WPc c (.op (.waitDma2 sS a b g1 g2) fun _ => .op (.waitDma2 sR a2 b2 g3 g4) k) Q) := by
  unfold Z9 Z10
  iintro #HE ⟨HD, HS, HR, HN⟩ HO Hk
  iapply (wait_send m K c p 3 i hS hb) $$ [HS HO]
  · isplitr; · iexact HE
    isplitl [HS]; · iexact HS
    iexact HO
  iintro ⟨HzS, H1, HO⟩
  iapply (wait_recv m K c p 3 i hi hR hb2) $$ [HR HO]
  · isplitr; · iexact HE
    isplitl [HR]; · iexact HR
    iexact HO
  iintro ⟨HzR, H2, HO⟩
  ihave H := (join3 m p c) $$ [H1 H2]
  · isplitl [H1]; · iexact H1
    iexact H2
  icases H with ⟨H1, H2⟩
  iapply Hk $$ [HzS HzR HD H1 H2 HN] HO
  isplitl [HzS HzR HD]
  · unfold done3
    isplitl [HD]; · iexact HD
    isplitl [HzS] <;> iassumption
  isplitl [H1]; · iexact H1
  isplitl [H2]; · iexact H2
  iexact HN

/-- The last. -/
theorem go4 (c n : Dev nD) (p : Fin 3) (i : ℕ) (hn : n = peer p 4 c) (hi : owedR c i = dR c p 4 :: owedR c (i + 1))
    (hN : N = 4 * Ks p) (hoff : off = ![kb p c, 0]) (hoff' : off' = ![kb p c, 0]) {sS sR : DmaSem sig} (hS : sS = sendS p 4) (hR : sR = recvS p 4)
    {hsc : (M2.slice (rU inb') (fun _ => rfl)).view.ref.isScScratch = false} {hsrc : (M2.slice (rU inb) (fun _ => rfl)).view.WordExact} {hdst : (M2.slice (rU inb') (fun _ => rfl)).view.WordExact}
    {hsem : DmaTarget.Typed .vmem (.dma sR) (.remote (Dev.tc n : Thread nD τ) (M2.slice (rU inb') (fun _ => rfl)) (.dma sS) hsc)}
    {α : Type} {Q : α → sProp 𝕄} {k : PUnit → Prog (TpuEff nD τ sig (Elt F) Λ₀ .tc) α} :
    env m K ⊢ iprop(Z10 m p c -∗ ow (F := F) c i -∗ (Z11 m p c -∗ ow (F := F) c (i + 1) -∗ WPc c (k ⟨⟩) Q)
          -∗ WPc c (.op (.enqueueDma (M2.slice (rU inb) (fun _ => rfl)) (.remote (Dev.tc n : Thread nD τ) (M2.slice (rU inb') (fun _ => rfl)) (.dma sS) hsc) (.dma sR) hsrc hdst hsem) k) Q) := by
  unfold Z10 rest4 Z11
  iintro HE ⟨HD, H1, H2, ⟨HT, HA⟩, HR, HL, HN⟩ HO Hk
  iapply (send_T4 m K c n p i hn hi hN hoff hoff' hS hR) $$ [HE HT HA H1 HL HO]
  · isplitl [HE]; · iexact HE
    isplitl [HT]; · iexact HT
    isplitl [HA]; · iexact HA
    isplitl [H1]; · iexact H1
    isplitl [HL]; · iexact HL
    iexact HO
  iintro ⟨HS, HO⟩
  iapply Hk $$ [HD H2 HS HR HN] HO
  isplitl [HD]; · iexact HD
  isplitl [H2]; · iexact H2
  isplitl [HS]; · iexact HS
  isplitl [HR]; · iexact HR
  iexact HN

/-- The kept half is staged, and its copy out started. -/
theorem stage_kb (c : Dev nD) (p : Fin 3) (hN : N = 4 * Ks p) (hoff : off = ![kb p c, 0])
    {h1 : M2.view.LoadsAt (rU inb).toLoadRect} {h2 : M4.view.LoadsAt (rU inb).toLoadRect}
    {h4 : (M4.access (rU inb)).Stores Finset.univ} {h5 : (Finset.univ : Finset (rU inb).shape.Idx) = Finset.univ ∨ ∀ a, (rU inb).stride a = 1}
    (w : Vec F (Sn N) .bf16 → Vec F (Sn N) .f32) (hw : ∀ a y, w a y = extE (F := F) (a y))
    {α : Type} {Q : α → sProp 𝕄} {k : PUnit → Prog (TpuEff nD τ sig (Elt F) Λ₀ .tc) α} :
    Z11 m p c ⊢ iprop((Z12 m p c -∗ WPc c (k ⟨⟩) Q)
      -∗ WPc c (.op (.load M2 (rU inb).toLoadRect h1) fun a => .op (.load M4 (rU inb).toLoadRect h2) fun _ => .op (.store M4 (rU inb) (w a) Finset.univ h4 h5) k) Q) := by
  subst hN
  unfold Z11 Z12
  iintro ⟨HD, H1, HS, HR, ⟨H4, HO, HZ⟩, HN⟩ Hk
  iapply (ld2 c fullShare.right hoff (OH m p c)) $$ H1
  iintro H1
  iapply (st4 c hoff _ (OUT m c) (fun j k' => by
    rw [hw, at2 inb hoff]
    exact out_kb m p c _ (ix_mem (kb_le p c) j k'))) $$ H4
  iintro H4
  iapply Hk
  isplitl [HD]; · iexact HD
  isplitl [H1]; · iexact H1
  isplitl [HS]; · iexact HS
  isplitl [HR]; · iexact HR
  isplitl [H4 HO HZ]
  · isplitl [H4]; · iexact H4
    isplitl [HO] <;> iassumption
  iexact HN

theorem outgo_kb (c : Dev nD) (p : Fin 3) (hN : N = 4 * Ks p) (hoff : off = ![kb p c, 0]) {sm : DmaSem sig} (hS : sm = cS (jk p))
    {hsrc : (M4.slice (rU inb) (fun _ => rfl)).view.WordExact} {hdst : (MO.slice (rU inb) (fun _ => rfl)).view.WordExact}
    {hsem : DmaTarget.Typed .vmem (.dma sm) (.here (MO.slice (rU inb) (fun _ => rfl)) : DmaTarget nD τ sig .tc .hbm (Sn N) .f32)}
    {α : Type} {Q : α → sProp 𝕄} {k : PUnit → Prog (TpuEff nD τ sig (Elt F) Λ₀ .tc) α} :
    Z12 m p c ⊢ iprop((Z13 m p c -∗ WPc c (k ⟨⟩) Q)
          -∗ WPc c (.op (.enqueueDma (M4.slice (rU inb) (fun _ => rfl)) (.here (MO.slice (rU inb) (fun _ => rfl))) (.dma sm) hsrc hdst hsem) k) Q) := by
  subst hN
  unfold Z12 Z13 outS
  iintro ⟨HD, H1, HS, HR, HC, HN⟩ Hk
  iapply (out_start m c (jk p) (show 0 < 4 * Ks p from cnt_pos p 0) hoff hS) $$ HC
  iintro HC
  iapply Hk
  isplitl [HD]; · iexact HD
  isplitl [H1]; · iexact H1
  isplitl [HS]; · iexact HS
  isplitl [HR]; · iexact HR
  isplitl [HC] <;> iassumption

theorem left4 (c : Dev nD) (p : Fin 3) (i : ℕ) {sS : DmaSem sig} (hS : sS = sendS p 4)
    {sp sp' : Space} {S S' : Shape} {e e' : EltTy} {κ' : Kind} {a : Memref sig .tc sp' S' e'} {b : Memref sig κ' sp S e} (hb : b.view.dmaCredit = crd p 4)
    {g1 : a.view.WordExact} {g2 : b.view.WordExact}
    {α : Type} {Q : α → sProp 𝕄} {k : PUnit → Prog (TpuEff nD τ sig (Elt F) Λ₀ .tc) α} :
    env m K ⊢ iprop(Z13 m p c -∗ ow (F := F) c i -∗ (Z14 m p c -∗ ow (F := F) c i -∗ WPc c (k ⟨⟩) Q) -∗ WPc c (.op (.waitDma2 sS a b g1 g2) k) Q) := by
  unfold Z13 Z14
  iintro HE ⟨HD, H1, HS, HR, HN⟩ HO Hk
  iapply (wait_send m K c p 4 i hS hb) $$ [HE HS HO]
  · isplitl [HE]; · iexact HE
    isplitl [HS]; · iexact HS
    iexact HO
  unfold sendPay
  iintro ⟨HzS, H2, HO⟩
  iapply Hk $$ [HD H1 H2 HzS HR HN] HO
  isplitl [HD]; · iexact HD
  isplitl [H1 H2]
  · iapply (any_intro (b := cc0_scratch2) (OH m p c))
    iapply (pointsTo_share (PosShare.mem_left_op_right fullShare)).2
    isplitl [H2] <;> iassumption
  isplitl [HzS]; · iexact HzS
  isplitl [HR]; · iexact HR
  iexact HN

theorem came4 (c : Dev nD) (p : Fin 3) (i : ℕ) (hi : ∀ x ∈ xfers.drop i, (4 : Fin 5).val < x.2.val) {sR : DmaSem sig} (hR : sR = recvS p 4)
    {sp sp' : Space} {S S' : Shape} {e e' : EltTy} {κ' : Kind} {a : Memref sig .tc sp' S' e'} {b : Memref sig κ' sp S e} (hb : b.view.dmaCredit = crd p 4)
    {g1 : a.view.WordExact} {g2 : b.view.WordExact}
    {α : Type} {Q : α → sProp 𝕄} {k : PUnit → Prog (TpuEff nD τ sig (Elt F) Λ₀ .tc) α} :
    env m K ⊢ iprop(Z14 m p c -∗ ow (F := F) c i -∗ (Z15 m p c -∗ ow (F := F) c i -∗ WPc c (k ⟨⟩) Q) -∗ WPc c (.op (.waitDma2 sR a b g1 g2) k) Q) := by
  unfold Z14 Z15
  iintro HE ⟨HD, H1, HzS, HR, HN⟩ HO Hk
  iapply (wait_recv m K c p 4 i hi hR hb) $$ [HE HR HO]
  · isplitl [HE]; · iexact HE
    isplitl [HR]; · iexact HR
    iexact HO
  iintro ⟨HzR, HP, HO⟩
  iapply Hk $$ [HD H1 HzS HzR HP HN] HO
  isplitl [HD HzS HzR]
  · unfold done4
    isplitl [HD]; · iexact HD
    isplitl [HzS] <;> iassumption
  isplitl [H1]; · iexact H1
  isplitl [HP]; · iexact HP
  iexact HN

/-- The other half: its load, its staging, its copy out. -/
theorem ld_ob (c : Dev nD) (p : Fin 3) (hN : N = 4 * Ks p) (hoff : off = ![ob p c, 0]) {h1 : M2.view.LoadsAt (rU inb).toLoadRect}
    {α : Type} {Q : α → sProp 𝕄} {k : Vec F (Sn N) .bf16 → Prog (TpuEff nD τ sig (Elt F) Λ₀ .tc) α} :
    Z15 m p c ⊢ iprop((Z15 m p c -∗ WPc c (k (M2.view.readAt (Elt F) (rU inb).toLoadRect (OH m p (peer p 0 c)))) Q)
      -∗ WPc c (.op (.load M2 (rU inb).toLoadRect h1) k) Q) := by
  subst hN
  unfold Z15 recvPay
  iintro ⟨HD, H1, HP, HN⟩ Hk
  iapply (ld2 c fullShare hoff (OH m p (peer p 0 c))) $$ HP
  iintro HP
  iapply Hk
  isplitl [HD]; · iexact HD
  isplitl [H1]; · iexact H1
  isplitl [HP] <;> iassumption

theorem st_ob (c : Dev nD) (p : Fin 3) (hN : N = 4 * Ks p) (hoff : off = ![ob p c, 0])
    {h2 : M4.view.LoadsAt (rU inb).toLoadRect}
    {h4 : (M4.access (rU inb)).Stores Finset.univ} {h5 : (Finset.univ : Finset (rU inb).shape.Idx) = Finset.univ ∨ ∀ a, (rU inb).stride a = 1}
    (w : Vec F (Sn N) .f32) (hw : ∀ y, w y = extE (F := F) ((M2.view.readAt (Elt F) (rU inb).toLoadRect (OH m p (peer p 0 c)) : Vec F (Sn N) .bf16) y))
    {α : Type} {Q : α → sProp 𝕄} {k : PUnit → Prog (TpuEff nD τ sig (Elt F) Λ₀ .tc) α} :
    Z15 m p c ⊢ iprop((Z16 m p c -∗ WPc c (k ⟨⟩) Q)
      -∗ WPc c (.op (.load M4 (rU inb).toLoadRect h2) fun _ => .op (.store M4 (rU inb) w Finset.univ h4 h5) k) Q) := by
  subst hN
  unfold Z15 Z16
  iintro ⟨HD, H1, HP, HN, H4, HO, HZ⟩ Hk
  iapply (st4 c hoff w (OUT m c) (fun j k' => by
    rw [hw, at2 inb hoff]
    exact out_ob m p c _ (ix_mem (ob_le p c) j k'))) $$ H4
  iintro H4
  iapply Hk
  isplitl [HD]; · iexact HD
  isplitl [H1]; · iexact H1
  isplitl [HP]; · iexact HP
  isplitl [HN]; · iexact HN
  isplitl [H4]; · iexact H4
  isplitl [HO] <;> iassumption

theorem outgo_ob (c : Dev nD) (p : Fin 3) (hN : N = 4 * Ks p) (hoff : off = ![ob p c, 0]) {sm : DmaSem sig} (hS : sm = cS (jo p))
    {hsrc : (M4.slice (rU inb) (fun _ => rfl)).view.WordExact} {hdst : (MO.slice (rU inb) (fun _ => rfl)).view.WordExact}
    {hsem : DmaTarget.Typed .vmem (.dma sm) (.here (MO.slice (rU inb) (fun _ => rfl)) : DmaTarget nD τ sig .tc .hbm (Sn N) .f32)}
    {α : Type} {Q : α → sProp 𝕄} {k : PUnit → Prog (TpuEff nD τ sig (Elt F) Λ₀ .tc) α} :
    Z16 m p c ⊢ iprop((Z17 m p c -∗ WPc c (k ⟨⟩) Q)
          -∗ WPc c (.op (.enqueueDma (M4.slice (rU inb) (fun _ => rfl)) (.here (MO.slice (rU inb) (fun _ => rfl))) (.dma sm) hsrc hdst hsem) k) Q) := by
  subst hN
  unfold Z16 Z17 outS
  iintro ⟨HD, H1, HP, HN, HC⟩ Hk
  iapply (out_start m c (jo p) (show 0 < 4 * Ks p from cnt_pos p 0) hoff hS) $$ HC
  iintro HC
  iapply Hk
  isplitl [HD]; · iexact HD
  isplitl [H1]; · iexact H1
  isplitl [HP]; · iexact HP
  isplitl [HN] <;> iassumption

theorem outend_kb (c : Dev nD) (p : Fin 3) {sm : DmaSem sig} (hS : sm = cS (jk p)) (hN : N = 4 * Ks p)
    {sp sp' : Space} {S' : Shape} {e' : EltTy} {κ' : Kind} {a : Memref sig .tc sp' S' e'} {b : Memref sig κ' sp (Sn N) .f32} (hb : b.view.dmaCredit = credO N)
    {h1 : a.view.WordExact} {h2 : b.view.WordExact}
    {α : Type} {Q : α → sProp 𝕄} {k : PUnit → Prog (TpuEff nD τ sig (Elt F) Λ₀ .tc) α} :
    env m K ⊢ iprop(Z17 m p c -∗ ow (F := F) c 15 -∗ (Z18 m p c -∗ ow (F := F) c 15 -∗ WPc c (k ⟨⟩) Q) -∗ WPc c (.op (.waitDma2 sm a b h1 h2) k) Q) := by
  subst hN
  unfold Z17 Z18
  iintro HE ⟨HD, H1, HP, HC, HN⟩ HO Hk
  iapply (out_wait m K c (jk p) hS hb) $$ [HE HC HO]
  · isplitl [HE]; · iexact HE
    isplitl [HC]; · iexact HC
    iexact HO
  iintro ⟨Ho, H4, HZ, HO⟩
  iapply Hk $$ [HD H1 HP Ho H4 HZ HN] HO
  isplitl [HD]; · iexact HD
  isplitl [H1]; · iexact H1
  isplitl [HP]; · iexact HP
  isplitl [Ho H4 HZ]
  · isplitl [Ho]; · iexact Ho
    isplitl [H4] <;> iassumption
  iexact HN

theorem outend_ob (c : Dev nD) (p : Fin 3) {sm : DmaSem sig} (hS : sm = cS (jo p)) (hN : N = 4 * Ks p)
    {sp sp' : Space} {S' : Shape} {e' : EltTy} {κ' : Kind} {a : Memref sig .tc sp' S' e'} {b : Memref sig κ' sp (Sn N) .f32} (hb : b.view.dmaCredit = credO N)
    {h1 : a.view.WordExact} {h2 : b.view.WordExact}
    {α : Type} {Q : α → sProp 𝕄} {k : PUnit → Prog (TpuEff nD τ sig (Elt F) Λ₀ .tc) α} :
    env m K ⊢ iprop(Z18 m p c -∗ ow (F := F) c 15 -∗ (Z19 m p c -∗ ow (F := F) c 15 -∗ WPc c (k ⟨⟩) Q) -∗ WPc c (.op (.waitDma2 sm a b h1 h2) k) Q) := by
  subst hN
  unfold Z18 Z19
  iintro HE ⟨HD, H1, HP, HN, HC⟩ HO Hk
  iapply (out_wait m K c (jo p) hS hb) $$ [HE HC HO]
  · isplitl [HE]; · iexact HE
    isplitl [HC]; · iexact HC
    iexact HO
  iintro ⟨Ho, H4, HZ, HO⟩
  iapply Hk $$ [HD H1 HP Ho H4 HZ HN] HO
  isplitl [HD]; · iexact HD
  isplitl [H1]; · iexact H1
  isplitl [HP]; · iexact HP
  isplitl [HN]; · iexact HN
  isplitl [Ho]; · iexact Ho
  isplitl [H4] <;> iassumption

end Steps

end Cert.KProof
-- ==== Proof.Body1.lean ====
/-
# The first nine parts of the body

Each part of the kernel's body as a step from one state of its device to another: here those up to
the start of the first three exchanges.
-/
module

public import proofs.«01_k».proof.Proof.Steps4

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- A function of the kernel's buffers and semaphores, at the ones it is called on. -/
abbrev onBufs {β : Sort*} (f : (arg0 : Memref sig .tc .hbm S4x1024x512 .f32) → arg0.IsWhole → (arg1 : Memref sig .tc .vmem S4x512 .f32) → arg1.IsWhole →
    (arg2 : Memref sig .tc .vmem S512x512 .f32) → arg2.IsWhole → (arg3 : Memref sig .tc .hbm S4096x512 .f32) → arg3.IsWhole →
    (arg4 : Memref sig .tc .vmem S2x1032x512 .f32) → arg4.IsWhole → (arg5 : Memref sig .tc .vmem S4096x512 .bf16) → arg5.IsWhole →
    (arg6 : Memref sig .tc .vmem S4096x512 .bf16) → arg6.IsWhole → (arg7 : Memref sig .tc .vmem S4096x512 .bf16) → arg7.IsWhole →
    (arg8 : Memref sig .tc .vmem S4096x512 .f32) → arg8.IsWhole → DmaSems sig S2 → DmaSems sig S6 → DmaSems sig S18 → DmaSems sig S18 → β) : β :=
  f MX (Memref.isWhole_whole _) MK (Memref.isWhole_whole _) MW (Memref.isWhole_whole _) MO (Memref.isWhole_whole _) M0 (Memref.isWhole_whole _)
    M1 (Memref.isWhole_whole _) M2 (Memref.isWhole_whole _) M3 (Memref.isWhole_whole _) M4 (Memref.isWhole_whole _)
    cc0_scratch5 cc0_scratch6 cc0_scratch7 cc0_scratch8

/-- The taps; a batch of the input; a slot holding one. -/
abbrev kS (c : Dev nD) : sProp 𝕄 := pt cc0_stg0_0 c Finset.univ fullShare (karr m c)
abbrev wS (c : Dev nD) : sProp 𝕄 := pt cc0_stg1_0 c Finset.univ fullShare (warr m c)
abbrev XB (c : Dev nD) (b : Fin 4) : sProp 𝕄 := pt main_arg0 c (bat b) fullShare (xarr m c)
abbrev XS (c : Dev nD) (sl : ℕ) (b : Fin 4) : sProp 𝕄 := pt cc0_scratch0 c (slot sl) fullShare (xbuf m c b)
/-- The word form of the projection. -/
abbrev wB (c : Dev nD) : FVec F S512x512 .bf16 := k0_pay1 (warr m c)

theorem part1 (c : Dev nD) {Q : (Σ' (d0 : Dev nD) (v5 : BitVec 32) (v7 : BitVec 32) (v9 : BitVec 32) (v10 : BitVec 32), Sems sig S_) → sProp 𝕄} :
    iprop(env m K ∗ dutyTok ER (barCell (par 0 c)) 0 (0 : Fin 3) ∗ give (F := F) 0 c ∗ dutyTok ER (barCell (par 1 c)) 0 (1 : Fin 3) ∗ give (F := F) 1 c
        ∗ owB (F := F) c (dB c 0 :: dB c 1 :: dB c 2 :: owedR c 0))
      ⊢ iprop((∀ v5 v7 v9 v10, owB (F := F) c (dB c 2 :: owedR c 0) -∗ Q ⟨c, v5, v7, v9, v10, SemArray.scalar (sig.barrier 0 rfl)⟩)
          -∗ WPc c (onBufs (k0_part1 (F := F))) Q) := by
  unfold onBufs
  rw [k0_part1_eq_skeleton]
  unfold k0_part1_skel
  simp only [semSignalWord, Prog.lift, Prog.bind_op, Prog.bind_ret, Prog.pure_eq_ret, wp_deviceId]
  iintro ⟨#HE, Ht0, H0, Ht1, H1, HO⟩ Hk
  iapply (signal_step m K c _ 0 (dB c 1 :: dB c 2 :: owedR c 0) (dev1_eq c) rfl) $$ [Ht0 H0 HO]
  · isplitr; · iexact HE
    isplitl [Ht0]; · iexact Ht0
    isplitl [H0]; · iexact H0
    iexact HO
  iintro HO
  iapply (signal_step m K c _ 1 (dB c 2 :: owedR c 0) (dev2_eq c) rfl) $$ [Ht1 H1 HO]
  · isplitr; · iexact HE
    isplitl [Ht1]; · iexact Ht1
    isplitl [H1]; · iexact H1
    iexact HO
  iintro HO
  iapply (wp_done c)
  iapply Hk; iexact HO

theorem part2 (c : Dev nD) {Q : FVec F S512x512 .bf16 → sProp 𝕄} :
    env m K ⊢ iprop(dutyTok ER (barCell (par 2 c)) 0 (2 : Fin 3) -∗ give (F := F) 2 c -∗ owB (F := F) c (dB c 2 :: owedR c 0)
      -∗ any (F := F) cc0_scratch0 c (slot 0) -∗ any (F := F) cc0_scratch0 c (slot 1) -∗ wS m c -∗ XB m c 0 -∗ XB m c 1 -∗ xZ (F := F) c 0 -∗ xZ (F := F) c 1
      -∗ (XF m c 0 0 -∗ XF m c 1 1 -∗ wS m c -∗ owB (F := F) c (owedR c 0) -∗ Q (wB m c))
      -∗ WPc c (onBufs (k0_part2 (F := F)) c (SemArray.scalar (sig.barrier 0 rfl))) Q) := by
  unfold onBufs
  rw [k0_part2_eq_skeleton]
  unfold k0_part2_skel
  simp only [semSignalWord, Prog.lift, Prog.bind_op, Prog.bind_ret, Prog.pure_eq_ret]
  iintro #HE Ht H HO H0 H1 Hw HB0 HB1 HZ0 HZ1 Hk
  iapply (signal_step m K c _ 2 (owedR c 0) (dev3_eq c) rfl) $$ [Ht H HO]
  · isplitr; · iexact HE
    isplitl [Ht]; · iexact Ht
    isplitl [H]; · iexact H
    iexact HO
  iintro HO
  iapply (ldw m c rfl) $$ Hw
  iintro Hw
  iapply (st_pad c rfl _ (fun _ => rfl)) $$ H0
  iintro H0
  iapply (st_pad c rfl _ (fun _ => rfl)) $$ H1
  iintro H1
  iapply (x_start m c 0 0 (s := 0) rfl rfl rfl rfl) $$ [HB0 H0 HZ0]
  · isplitl [HB0]; · iexact HB0
    isplitl [H0]; · iexact H0
    iexact HZ0
  iintro HF0
  iapply (x_start m c 1 1 (s := 1) rfl rfl rfl rfl) $$ [HB1 H1 HZ1]
  · isplitl [HB1]; · iexact HB1
    isplitl [H1]; · iexact H1
    iexact HZ1
  iintro HF1
  iapply (wp_done c)
  iapply Hk $$ HF0 HF1 Hw HO

theorem part3 (c : Dev nD) {Q : FVec F S1024x512 .bf16 → sProp 𝕄} :
    env m K ⊢ iprop(XF m c 0 0 -∗ kS m c -∗ ow (F := F) c 0
      -∗ (XS m c 0 0 -∗ XB m c 0 -∗ xZ (F := F) c 0 -∗ kS m c -∗ ow (F := F) c 0
          -∗ Q (k0_pay4 (wB m c) (xv m c 0 8) (kv m c 3) (xv m c 0 5) (kv m c 0) (xv m c 0 6) (kv m c 1) (xv m c 0 7) (kv m c 2)))
      -∗ WPc c (onBufs (k0_part3 (F := F)) (wB m c)) Q) := by
  unfold onBufs
  rw [k0_part3_eq_skeleton]
  unfold k0_part3_skel
  simp only [Prog.lift, Prog.bind_op, Prog.bind_ret, Prog.pure_eq_ret]
  iintro #HE HF Hk0 HO Hk
  iapply (x_wait m K c 0 0 (s := 0) rfl 0 rfl rfl) $$ [HF HO]
  · isplitr; · iexact HE
    isplitl [HF]; · iexact HF
    iexact HO
  iintro ⟨HS, HB, HZ, HO⟩
  iapply (ldx m c 0 0 8 rfl) $$ HS
  iintro HS
  iapply (ldk m c 3 rfl) $$ Hk0
  iintro Hk0
  iapply (ldx m c 0 0 5 rfl) $$ HS
  iintro HS
  iapply (ldk m c 0 rfl) $$ Hk0
  iintro Hk0
  iapply (ldx m c 0 0 6 rfl) $$ HS
  iintro HS
  iapply (ldk m c 1 rfl) $$ Hk0
  iintro Hk0
  iapply (ldx m c 0 0 7 rfl) $$ HS
  iintro HS
  iapply (ldk m c 2 rfl) $$ Hk0
  iintro Hk0
  iapply (wp_done c)
  iapply Hk $$ HS HB HZ Hk0 HO

theorem part4 (c : Dev nD) {Q : (Σ' (v118 : FVec F S1024x512 .f32), Vec F S1x1024x512 .f32) → sProp 𝕄} :
    env m K ⊢ iprop(PB m c 0 0 -∗ XS m c 0 0 -∗ XB m c 2 -∗ xZ (F := F) c 0 -∗ XF m c 1 1 -∗ kS m c -∗ ow (F := F) c 0
      -∗ (PB m c 0 1 -∗ XF m c 0 2 -∗ XS m c 1 1 -∗ XB m c 1 -∗ xZ (F := F) c 1 -∗ kS m c -∗ ow (F := F) c 0
            -∗ Q ⟨k0_pay6 (xv m c 1 8) (kv m c 3) (xv m c 1 5) (kv m c 0), xv m c 1 6⟩)
      -∗ WPc c (onBufs (k0_part4 (F := F)) (k0_pay4 (wB m c) (xv m c 0 8) (kv m c 3) (xv m c 0 5) (kv m c 0) (xv m c 0 6) (kv m c 1) (xv m c 0 7) (kv m c 2))) Q) := by
  unfold onBufs
  rw [k0_part4_eq_skeleton]
  unfold k0_part4_skel
  simp only [Prog.lift, Prog.bind_op, Prog.bind_ret, Prog.pure_eq_ret]
  iintro #HE HP HS0 HB2 HZ HF1 Hk0 HO Hk
  iapply (st_blk m c 0 0 (n := 0) (n' := 1) rfl rfl (Nat.zero_le _) rfl _ rfl) $$ HP
  iintro HP
  iapply (x_start m c 0 2 (s := 0) rfl rfl rfl rfl) $$ [HB2 HS0 HZ]
  · isplitl [HB2]; · iexact HB2
    isplitl [HS0]; · iapply (padded_of m c 0 0); iexact HS0
    iexact HZ
  iintro HF
  iapply (x_wait m K c 1 1 (s := 1) rfl 0 rfl rfl) $$ [HF1 HO]
  · isplitr; · iexact HE
    isplitl [HF1]; · iexact HF1
    iexact HO
  iintro ⟨HS, HB, HZ, HO⟩
  iapply (ldx m c 1 1 8 rfl) $$ HS
  iintro HS
  iapply (ldk m c 3 rfl) $$ Hk0
  iintro Hk0
  iapply (ldx m c 1 1 5 rfl) $$ HS
  iintro HS
  iapply (ldk m c 0 rfl) $$ Hk0
  iintro Hk0
  iapply (ldx m c 1 1 6 rfl) $$ HS
  iintro HS
  iapply (wp_done c)
  iapply Hk $$ HP HF HS HB HZ Hk0 HO

theorem part5 (c : Dev nD) (v5 v7 : BitVec 32) {Q : (Σ' (v142 : BitVec 32), BitVec 32) → sProp 𝕄} :
    env m K ⊢ iprop(PB m c 0 1 -∗ XS m c 1 1 -∗ kS m c -∗ barR (F := F) c -∗ ow (F := F) c 0
      -∗ (∀ r, PB m c 0 2 -∗ XS m c 1 1 -∗ kS m c -∗ semVal (barCell c) 0 -∗ barPay (F := F) 0 c -∗ barPay (F := F) 1 c -∗ barPay (F := F) 2 c -∗ ow (F := F) c 0 -∗ Q r)
      -∗ WPc c (onBufs (k0_part5 (F := F)) v5 v7 (SemArray.scalar (sig.barrier 0 rfl)) (wB m c) (k0_pay6 (xv m c 1 8) (kv m c 3) (xv m c 1 5) (kv m c 0)) (xv m c 1 6)) Q) := by
  unfold onBufs
  rw [k0_part5_eq_skeleton]
  unfold k0_part5_skel
  simp only [semWaitWord, Prog.lift, Prog.bind_op, Prog.bind_ret, Prog.pure_eq_ret]
  iintro #HE HP HS Hk0 HR HO Hk
  iapply (ldk m c 1 rfl) $$ Hk0
  iintro Hk0
  iapply (ldx m c 1 1 7 rfl) $$ HS
  iintro HS
  iapply (ldk m c 2 rfl) $$ Hk0
  iintro Hk0
  iapply (st_blk m c 0 1 (n := 1) (n' := 2) rfl rfl (Nat.zero_le _) rfl _ rfl) $$ HP
  iintro HP
  iapply (bar_wait m K c rfl) $$ [HR HO]
  · isplitr; · iexact HE
    isplitl [HR]; · iexact HR
    iexact HO
  iintro ⟨HV, H0, H1, H2, HO⟩
  iapply (wp_done c)
  iapply Hk $$ %_ HP HS Hk0 HV H0 H1 H2 HO

theorem part6 (c : Dev nD) {Q : FVec F S1024x512 .f32 → sProp 𝕄} :
    env m K ⊢ iprop(Z0 m 0 c -∗ XB m c 3 -∗ XS m c 1 1 -∗ xZ (F := F) c 1 -∗ XF m c 0 2 -∗ kS m c -∗ ow (F := F) c 0
      -∗ (Z1 m 0 c -∗ XF m c 1 3 -∗ XS m c 0 2 -∗ XB m c 2 -∗ xZ (F := F) c 0 -∗ kS m c -∗ ow (F := F) c 1
          -∗ Q (k0_pay8 (xv m c 2 8) (kv m c 3) (xv m c 2 5) (kv m c 0)))
      -∗ WPc c (onBufs (k0_part6 (F := F)) c) Q) := by
  unfold onBufs
  rw [k0_part6_eq_skeleton]
  unfold k0_part6_skel
  simp only [Prog.lift, Prog.bind_op, Prog.bind_ret, Prog.pure_eq_ret]
  iintro #HE H HB HS1 HZ1 HF0 Hk0 HO Hk
  iapply (go0 m K (N := 704) c _ 0 0 (dev4_eq c) rfl rfl (off1_eq0 c) rfl rfl rfl) $$ HE H HO
  iintro H HO
  iapply (x_start m c 1 3 (s := 1) rfl rfl rfl rfl) $$ [HB HS1 HZ1]
  · isplitl [HB]; · iexact HB
    isplitl [HS1]; · iapply (padded_of m c 1 1); iexact HS1
    iexact HZ1
  iintro HF
  iapply (x_wait m K c 0 2 (s := 0) rfl 1 rfl rfl) $$ [HF0 HO]
  · isplitr; · iexact HE
    isplitl [HF0]; · iexact HF0
    iexact HO
  iintro ⟨HS, HB, HZ, HO⟩
  iapply (ldx m c 0 2 8 rfl) $$ HS
  iintro HS
  iapply (ldk m c 3 rfl) $$ Hk0
  iintro Hk0
  iapply (ldx m c 0 2 5 rfl) $$ HS
  iintro HS
  iapply (ldk m c 0 rfl) $$ Hk0
  iintro Hk0
  iapply (wp_done c)
  iapply Hk $$ H HF HS HB HZ Hk0 HO

theorem part7 (c : Dev nD) (v5 v9 : BitVec 32) {Q : (Σ' (v206 : BitVec 32), BitVec 32) → sProp 𝕄} :
    XS m c 0 2 ⊢ iprop(kS m c -∗ PB m c (Bs 1) 2 -∗ (∀ r, XS m c 0 2 -∗ kS m c -∗ PB m c (Bs 1) 3 -∗ Q r)
      -∗ WPc c (onBufs (k0_part7 (F := F)) v5 v9 (wB m c) (k0_pay8 (xv m c 2 8) (kv m c 3) (xv m c 2 5) (kv m c 0))) Q) := by
  unfold onBufs
  rw [k0_part7_eq_skeleton]
  unfold k0_part7_skel
  simp only [Prog.lift, Prog.bind_op, Prog.bind_ret, Prog.pure_eq_ret]
  iintro HS Hk0 HP Hk
  iapply (ldx m c 0 2 6 rfl) $$ HS
  iintro HS
  iapply (ldk m c 1 rfl) $$ Hk0
  iintro Hk0
  iapply (ldx m c 0 2 7 rfl) $$ HS
  iintro HS
  iapply (ldk m c 2 rfl) $$ Hk0
  iintro Hk0
  iapply (st_blk m c (Bs 1) 2 (n := 2) (n' := 3) rfl rfl (by decide) rfl _ rfl) $$ HP
  iintro HP
  iapply (wp_done c)
  iapply Hk $$ %_ HS Hk0 HP

theorem part8 (c : Dev nD) {Q : FVec F S1024x512 .f32 → sProp 𝕄} :
    env m K ⊢ iprop(Z0 m 1 c -∗ XF m c 1 3 -∗ kS m c -∗ ow (F := F) c 1
      -∗ (Z1 m 1 c -∗ XS m c 1 3 -∗ XB m c 3 -∗ xZ (F := F) c 1 -∗ kS m c -∗ ow (F := F) c 2
          -∗ Q (k0_pay10 (xv m c 3 8) (kv m c 3) (xv m c 3 5) (kv m c 0) (xv m c 3 6) (kv m c 1)))
      -∗ WPc c (onBufs (k0_part8 (F := F)) c) Q) := by
  unfold onBufs
  rw [k0_part8_eq_skeleton]
  unfold k0_part8_skel
  simp only [Prog.lift, Prog.bind_op, Prog.bind_ret, Prog.pure_eq_ret]
  iintro #HE H HF Hk0 HO Hk
  iapply (go0 m K (N := 704) c _ 1 1 (dev5_eq c) rfl rfl (off1_eq1 c) rfl rfl rfl) $$ HE H HO
  iintro H HO
  iapply (x_wait m K c 1 3 (s := 1) rfl 2 rfl rfl) $$ [HF HO]
  · isplitr; · iexact HE
    isplitl [HF]; · iexact HF
    iexact HO
  iintro ⟨HS, HB, HZ, HO⟩
  iapply (ldx m c 1 3 8 rfl) $$ HS
  iintro HS
  iapply (ldk m c 3 rfl) $$ Hk0
  iintro Hk0
  iapply (ldx m c 1 3 5 rfl) $$ HS
  iintro HS
  iapply (ldk m c 0 rfl) $$ Hk0
  iintro Hk0
  iapply (ldx m c 1 3 6 rfl) $$ HS
  iintro HS
  iapply (ldk m c 1 rfl) $$ Hk0
  iintro Hk0
  iapply (wp_done c)
  iapply Hk $$ H HS HB HZ Hk0 HO

theorem part9 (c : Dev nD) (v5 v10 : BitVec 32) {Q : (Σ' (v264 : BitVec 32), BitVec 32) → sProp 𝕄} :
    env m K ⊢ iprop(XS m c 1 3 -∗ kS m c -∗ PB m c (Bs 2) 3 -∗ any (F := F) cc0_scratch2 c (rows (kb 2 c) (4 * Ks 2)) -∗ rest0 (F := F) 2 c -∗ ow (F := F) c 2
      -∗ (∀ r, XS m c 1 3 -∗ kS m c -∗ Z1 m 2 c -∗ ow (F := F) c 3 -∗ Q r)
      -∗ WPc c (onBufs (k0_part9 (F := F)) c v5 v10 (wB m c) (k0_pay10 (xv m c 3 8) (kv m c 3) (xv m c 3 5) (kv m c 0) (xv m c 3 6) (kv m c 1))) Q) := by
  unfold onBufs
  rw [k0_part9_eq_skeleton]
  unfold k0_part9_skel
  simp only [Prog.lift, Prog.bind_op, Prog.bind_ret, Prog.pure_eq_ret]
  iintro #HE HS Hk0 HP HA HR HO Hk
  iapply (ldx m c 1 3 7 rfl) $$ HS
  iintro HS
  iapply (ldk m c 2 rfl) $$ Hk0
  iintro Hk0
  iapply (st_blk m c (Bs 2) 3 (n := 3) (n' := 4) rfl rfl (by decide) rfl _ rfl) $$ HP
  iintro HP
  ihave HP := (pb_take m c 2 4 (by decide)) $$ HP
  icases HP with ⟨H1, H2, -⟩
  iapply (go0 m K (N := 640) c _ 2 2 (dev6_eq c) rfl rfl (off2_eq c) rfl rfl rfl) $$ HE [H1 H2 HA HR] HO
  · unfold Z0
    isplitl [H1]; · iexact H1
    isplitl [H2]; · iexact H2
    isplitl [HA] <;> iassumption
  iintro H HO
  iapply (wp_done c)
  iapply Hk $$ %_ HS Hk0 H HO

end Cert.KProof
-- ==== Proof.Body2.lean ====
/-
# The other parts of the body

The parts from the end of the first exchange on, each as a step from one state of its device to another.
-/
module

public import proofs.«01_k».proof.Proof.Body1
public import Idealize.ShloMosaic.Lib.Pipeline.Value

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem part10 (c : Dev nD) (v5 v7 v9 v142 v149 : BitVec 32) {Q : (Σ' (a : BitVec 32), BitVec 32) → sProp 𝕄} :
    env m K ⊢ iprop(Z1 m 0 c -∗ ow (F := F) c 3 -∗ (∀ r, Z2 m 0 c -∗ ow (F := F) c 3 -∗ Q r)
      -∗ WPc c (onBufs (k0_part10 (F := F)) c v5 v7 v9 v142 v149) Q) := by
  unfold onBufs
  rw [k0_part10_eq_skeleton]
  unfold k0_part10_skel
  simp only [Prog.lift, Prog.bind_op, Prog.bind_ret, Prog.pure_eq_ret]
  iintro #HE H0 HO Hk
  iapply (end0 m K (N := 704) c 0 3 (by decide) rfl rfl rfl (off3_eq0 c) rfl rfl rfl _ (fun a b y => by unfold k0_pay12; exact congrFun (Idealize.ShloMosaic.shapeCast_self _ _) y)) $$ HE H0 HO
  iintro H0 HO
  iapply (wp_done c)
  iapply Hk $$ %_ H0 HO

theorem part11 (c : Dev nD) (v5 v9 v10 v206 v213 : BitVec 32) {Q : (Σ' (a : BitVec 32) (b : BitVec 32), BitVec 32) → sProp 𝕄} :
    env m K ⊢ iprop(Z2 m 0 c -∗ Z1 m 1 c -∗ ow (F := F) c 3 -∗ (∀ r, Z3 m 0 c -∗ Z2 m 1 c -∗ ow (F := F) c 4 -∗ Q r)
      -∗ WPc c (onBufs (k0_part11 (F := F)) c v5 v9 v10 v206 v213) Q) := by
  unfold onBufs
  rw [k0_part11_eq_skeleton]
  unfold k0_part11_skel
  simp only [Prog.lift, Prog.bind_op, Prog.bind_ret, Prog.pure_eq_ret]
  iintro #HE H0 H1 HO Hk
  iapply (go1 m K (N := 352) c _ 0 3 (dev7_eq c) rfl rfl (off4_eq c) rfl rfl rfl) $$ HE H0 HO
  iintro H0 HO
  iapply (end0 m K (N := 704) c 1 4 (by decide) rfl rfl rfl (off3_eq1 c) rfl rfl rfl _ (fun a b y => by unfold k0_pay13; exact congrFun (Idealize.ShloMosaic.shapeCast_self _ _) y)) $$ HE H1 HO
  iintro H1 HO
  iapply (wp_done c)
  iapply Hk $$ %_ H0 H1 HO

theorem part12 (c : Dev nD) (v10 v264 v271 v342 w : BitVec 32) {Q : (Σ' (a : BitVec 32), BitVec 32) → sProp 𝕄} :
    env m K ⊢ iprop(Z2 m 1 c -∗ Z1 m 2 c -∗ ow (F := F) c 4 -∗ (∀ r, Z3 m 1 c -∗ Z2 m 2 c -∗ ow (F := F) c 5 -∗ Q r)
      -∗ WPc c (onBufs (k0_part12 (F := F)) c v10 v264 v271 v342 w) Q) := by
  unfold onBufs
  rw [k0_part12_eq_skeleton]
  unfold k0_part12_skel
  simp only [Prog.lift, Prog.bind_op, Prog.bind_ret, Prog.pure_eq_ret]
  iintro #HE H1 H2 HO Hk
  iapply (go1 m K (N := 352) c _ 1 4 (dev8_eq c) rfl rfl (off5_eq c) rfl rfl rfl) $$ HE H1 HO
  iintro H1 HO
  iapply (end0 m K (N := 640) c 2 5 (by decide) rfl rfl rfl (off6_eq c) rfl rfl rfl _ (fun a b y => by unfold k0_pay14; exact congrFun (Idealize.ShloMosaic.shapeCast_self _ _) y)) $$ HE H2 HO
  iintro H2 HO
  iapply (wp_done c)
  iapply Hk $$ %_ H1 H2 HO

theorem part13 (c : Dev nD) (v5 v7 v301 v308 v372 : BitVec 32) {Q : (Σ' (a : BitVec 32), BitVec 32) → sProp 𝕄} :
    env m K ⊢ iprop(Z2 m 2 c -∗ Z3 m 0 c -∗ ow (F := F) c 5 -∗ (∀ r, Z3 m 2 c -∗ Z5 m 0 c -∗ ow (F := F) c 6 -∗ Q r)
      -∗ WPc c (onBufs (k0_part13 (F := F)) c v5 v7 v301 v308 v372) Q) := by
  unfold onBufs
  rw [k0_part13_eq_skeleton]
  unfold k0_part13_skel
  simp only [Prog.lift, Prog.bind_op, Prog.bind_ret, Prog.pure_eq_ret]
  iintro #HE H2 H0 HO Hk
  iapply (go1 m K (N := 320) c _ 2 5 (dev9_eq c) rfl rfl (off7_eq c) rfl rfl rfl) $$ HE H2 HO
  iintro H2 HO
  iapply (left1 m K c 0 6 rfl rfl) $$ HE H0 HO
  iintro H0 HO
  iapply (came1 m K c 0 6 (by decide) rfl rfl) $$ HE H0 HO
  iintro H0 HO
  iapply (wp_done c)
  iapply Hk $$ %_ H2 H0 HO

theorem part14 (c : Dev nD) (v5 v7 v9 v301 v345 : BitVec 32) {Q : (Σ' (a : BitVec 32), BitVec 32) → sProp 𝕄} :
    env m K ⊢ iprop(Z5 m 0 c -∗ Z3 m 1 c -∗ ow (F := F) c 6 -∗ (∀ r, Z7 (F := F) 0 c -∗ Z4 m 1 c -∗ ow (F := F) c 7 -∗ Q r)
      -∗ WPc c (onBufs (k0_part14 (F := F)) c v5 v7 v9 v301 v345) Q) := by
  unfold onBufs
  rw [k0_part14_eq_skeleton]
  unfold k0_part14_skel
  simp only [Prog.lift, Prog.bind_op, Prog.bind_ret, Prog.pure_eq_ret]
  iintro #HE H0 H1 HO Hk
  iapply (add1 m (N := 352) c 0 rfl (off8_eq c) rfl _ (fun a b y => by unfold k0_pay15; exact congrFun (Idealize.ShloMosaic.shapeCast_self _ _) y)) $$ H0
  iintro H0
  iapply (go2 m K (N := 352) c _ 0 6 (dev10_eq c) rfl rfl (off9_eq c) rfl rfl rfl) $$ HE H0 HO
  iintro H0 HO
  iapply (left1 m K c 1 7 rfl rfl) $$ HE H1 HO
  iintro H1 HO
  iapply (wp_done c)
  iapply Hk $$ %_ H0 H1 HO

theorem part15 (c : Dev nD) (v5 v9 v10 v338 : BitVec 32) {Q : (Σ' (a : BitVec 32), BitVec 32) → sProp 𝕄} :
    env m K ⊢ iprop(Z4 m 1 c -∗ Z3 m 2 c -∗ ow (F := F) c 7 -∗ (∀ r, Z7 (F := F) 1 c -∗ Z4 m 2 c -∗ ow (F := F) c 8 -∗ Q r)
      -∗ WPc c (onBufs (k0_part15 (F := F)) c v5 v9 v10 v338) Q) := by
  unfold onBufs
  rw [k0_part15_eq_skeleton]
  unfold k0_part15_skel
  simp only [Prog.lift, Prog.bind_op, Prog.bind_ret, Prog.pure_eq_ret]
  iintro #HE H1 H2 HO Hk
  iapply (came1 m K c 1 7 (by decide) rfl rfl) $$ HE H1 HO
  iintro H1 HO
  iapply (add1 m (N := 352) c 1 rfl (off10_eq c) rfl _ (fun a b y => by unfold k0_pay16; exact congrFun (Idealize.ShloMosaic.shapeCast_self _ _) y)) $$ H1
  iintro H1
  iapply (go2 m K (N := 352) c _ 1 7 (dev11_eq c) rfl rfl (off11_eq c) rfl rfl rfl) $$ HE H1 HO
  iintro H1 HO
  iapply (left1 m K c 2 8 rfl rfl) $$ HE H2 HO
  iintro H2 HO
  iapply (wp_done c)
  iapply Hk $$ %_ H1 H2 HO

theorem part16 (c : Dev nD) (v5 v7 v10 v375 v382 : BitVec 32) {Q : (Σ' (a : BitVec 32), BitVec 32) → sProp 𝕄} :
    env m K ⊢ iprop(Z4 m 2 c -∗ ow (F := F) c 8 -∗ (∀ r, Z7 (F := F) 2 c -∗ ow (F := F) c 9 -∗ Q r)
      -∗ WPc c (onBufs (k0_part16 (F := F)) c v5 v7 v10 v375 v382) Q) := by
  unfold onBufs
  rw [k0_part16_eq_skeleton]
  unfold k0_part16_skel
  simp only [Prog.lift, Prog.bind_op, Prog.bind_ret, Prog.pure_eq_ret]
  iintro #HE H2 HO Hk
  iapply (came1 m K c 2 8 (by decide) rfl rfl) $$ HE H2 HO
  iintro H2 HO
  iapply (add1 m (N := 320) c 2 rfl (off12_eq c) rfl _ (fun a b y => by unfold k0_pay17; exact congrFun (Idealize.ShloMosaic.shapeCast_self _ _) y)) $$ H2
  iintro H2
  iapply (go2 m K (N := 320) c _ 2 8 (dev12_eq c) rfl rfl (off13_eq c) rfl rfl rfl) $$ HE H2 HO
  iintro H2 HO
  iapply (wp_done c)
  iapply Hk $$ %_ H2 HO

theorem part17 (c : Dev nD) (v5 v7 v9 v412 v416 : BitVec 32) {Q : (BitVec 32) → sProp 𝕄} :
    env m K ⊢ iprop(Z7 (F := F) 0 c -∗ ow (F := F) c 9 -∗ (∀ r, Z8 m 0 c -∗ ow (F := F) c 9 -∗ Q r)
      -∗ WPc c (onBufs (k0_part17 (F := F)) c v5 v7 v9 v412 v416) Q) := by
  unfold onBufs
  rw [k0_part17_eq_skeleton]
  unfold k0_part17_skel
  simp only [Prog.lift, Prog.bind_op, Prog.bind_ret, Prog.pure_eq_ret]
  iintro #HE H0 HO Hk
  iapply (end2 m K (N := 352) c 0 9 (by decide) rfl rfl rfl (off8_eq c) rfl rfl rfl _ (fun a b y => by unfold k0_pay18; exact congrFun (Idealize.ShloMosaic.shapeCast_self _ _) y)) $$ HE H0 HO
  iintro H0 HO
  iapply (wp_done c)
  iapply Hk $$ %_ H0 HO

theorem part18 (c : Dev nD) (v5 v9 v10 v446 v450 : BitVec 32) {Q : (Σ' (a : BitVec 32), BitVec 32) → sProp 𝕄} :
    env m K ⊢ iprop(Z8 m 0 c -∗ Z7 (F := F) 1 c -∗ ow (F := F) c 9 -∗ (∀ r, Z9 (F := F) 0 c -∗ Z8 m 1 c -∗ ow (F := F) c 10 -∗ Q r)
      -∗ WPc c (onBufs (k0_part18 (F := F)) c v5 v9 v10 v446 v450) Q) := by
  unfold onBufs
  rw [k0_part18_eq_skeleton]
  unfold k0_part18_skel
  simp only [Prog.lift, Prog.bind_op, Prog.bind_ret, Prog.pure_eq_ret]
  iintro #HE H0 H1 HO Hk
  iapply (go3 m K (N := 352) c _ 0 9 (dev13_eq c) rfl rfl (off9_eq c) (off9_eq c) rfl rfl) $$ HE H0 HO
  iintro H0 HO
  iapply (end2 m K (N := 352) c 1 10 (by decide) rfl rfl rfl (off10_eq c) rfl rfl rfl _ (fun a b y => by unfold k0_pay19; exact congrFun (Idealize.ShloMosaic.shapeCast_self _ _) y)) $$ HE H1 HO
  iintro H1 HO
  iapply (wp_done c)
  iapply Hk $$ %_ H0 H1 HO

theorem part19 (c : Dev nD) (v5 v7 v10 v480 v484 v553 : BitVec 32) {Q : (Σ' (a : BitVec 32), BitVec 32) → sProp 𝕄} :
    env m K ⊢ iprop(Z8 m 1 c -∗ Z7 (F := F) 2 c -∗ ow (F := F) c 10 -∗ (∀ r, Z9 (F := F) 1 c -∗ Z8 m 2 c -∗ ow (F := F) c 11 -∗ Q r)
      -∗ WPc c (onBufs (k0_part19 (F := F)) c v5 v7 v10 v480 v484 v553) Q) := by
  unfold onBufs
  rw [k0_part19_eq_skeleton]
  unfold k0_part19_skel
  simp only [Prog.lift, Prog.bind_op, Prog.bind_ret, Prog.pure_eq_ret]
  iintro #HE H1 H2 HO Hk
  iapply (go3 m K (N := 352) c _ 1 10 (dev14_eq c) rfl rfl (off11_eq c) (off11_eq c) rfl rfl) $$ HE H1 HO
  iintro H1 HO
  iapply (end2 m K (N := 320) c 2 11 (by decide) rfl rfl rfl (off12_eq c) rfl rfl rfl _ (fun a b y => by unfold k0_pay20; exact congrFun (Idealize.ShloMosaic.shapeCast_self _ _) y)) $$ HE H2 HO
  iintro H2 HO
  iapply (wp_done c)
  iapply Hk $$ %_ H1 H2 HO

theorem part20 (c : Dev nD) (v5 v7 v518 v583 v584 : BitVec 32) {Q : (Σ' (a : BitVec 32), BitVec 32) → sProp 𝕄} :
    env m K ⊢ iprop(Z8 m 2 c -∗ Z9 (F := F) 0 c -∗ ow (F := F) c 11 -∗ (∀ r, Z9 (F := F) 2 c -∗ Z10 m 0 c -∗ ow (F := F) c 12 -∗ Q r)
      -∗ WPc c (onBufs (k0_part20 (F := F)) c v5 v7 v518 v583 v584) Q) := by
  unfold onBufs
  rw [k0_part20_eq_skeleton]
  unfold k0_part20_skel
  simp only [Prog.lift, Prog.bind_op, Prog.bind_ret, Prog.pure_eq_ret]
  iintro #HE H2 H0 HO Hk
  iapply (go3 m K (N := 320) c _ 2 11 (dev15_eq c) rfl rfl (off13_eq c) (off13_eq c) rfl rfl) $$ HE H2 HO
  iintro H2 HO
  iapply (end3 m K c 0 12 (by decide) rfl rfl rfl rfl) $$ HE H0 HO
  iintro H0 HO
  iapply (wp_done c)
  iapply Hk $$ %_ H2 H0 HO

theorem part21 (c : Dev nD) (v5 v9 v552 : BitVec 32) {Q : (BitVec 32) → sProp 𝕄} :
    env m K ⊢ iprop(Z10 m 0 c -∗ Z9 (F := F) 1 c -∗ ow (F := F) c 12 -∗ (∀ r, Z11 m 0 c -∗ Z11 m 1 c -∗ ow (F := F) c 14 -∗ Q r)
      -∗ WPc c (onBufs (k0_part21 (F := F)) c v5 v9 v552) Q) := by
  unfold onBufs
  rw [k0_part21_eq_skeleton]
  unfold k0_part21_skel
  simp only [Prog.lift, Prog.bind_op, Prog.bind_ret, Prog.pure_eq_ret]
  iintro #HE H0 H1 HO Hk
  iapply (go4 m K (N := 704) c _ 0 12 (dev16_eq c) rfl rfl (off14_eq0 c) (off14_eq0 c) rfl rfl) $$ HE H0 HO
  iintro H0 HO
  iapply (end3 m K c 1 13 (by decide) rfl rfl rfl rfl) $$ HE H1 HO
  iintro H1 HO
  iapply (go4 m K (N := 704) c _ 1 13 (dev17_eq c) rfl rfl (off14_eq1 c) (off14_eq1 c) rfl rfl) $$ HE H1 HO
  iintro H1 HO
  iapply (wp_done c)
  iapply Hk $$ %_ H0 H1 HO

theorem part22 (c : Dev nD) (v5 v7 v10 v586 : BitVec 32) {Q : (BitVec 32) → sProp 𝕄} :
    env m K ⊢ iprop(Z9 (F := F) 2 c -∗ Z11 m 0 c -∗ ow (F := F) c 14 -∗ (∀ r, Z11 m 2 c -∗ Z12 m 0 c -∗ ow (F := F) c 15 -∗ Q r)
      -∗ WPc c (onBufs (k0_part22 (F := F)) c v5 v7 v10 v586) Q) := by
  unfold onBufs
  rw [k0_part22_eq_skeleton]
  unfold k0_part22_skel
  simp only [Prog.lift, Prog.bind_op, Prog.bind_ret, Prog.pure_eq_ret]
  iintro #HE H2 H0 HO Hk
  iapply (end3 m K c 2 14 (by decide) rfl rfl rfl rfl) $$ HE H2 HO
  iintro H2 HO
  iapply (go4 m K (N := 640) c _ 2 14 (dev18_eq c) rfl rfl (off15_eq c) (off15_eq c) rfl rfl) $$ HE H2 HO
  iintro H2 HO
  iapply (stage_kb m (N := 704) c 0 rfl (off3_eq0 c) _ (fun a y => by unfold k0_pay21; exact congrFun (Idealize.ShloMosaic.shapeCast_self _ _) y)) $$ H0
  iintro H0
  iapply (wp_done c)
  iapply Hk $$ %_ H2 H0 HO

theorem part23 (c : Dev nD) (v9 v10 : BitVec 32) {Q : PUnit → sProp 𝕄} :
    env m K ⊢ iprop(Z12 m 0 c -∗ Z11 m 1 c -∗ Z11 m 2 c -∗ ow (F := F) c 15 -∗ (Z13 m 0 c -∗ Z13 m 1 c -∗ Z13 m 2 c -∗ ow (F := F) c 15 -∗ Q ⟨⟩)
      -∗ WPc c (onBufs (k0_part23 (F := F)) c v9 v10) Q) := by
  unfold onBufs
  rw [k0_part23_eq_skeleton]
  unfold k0_part23_skel
  simp only [Prog.lift, Prog.bind_op, Prog.bind_ret, Prog.pure_eq_ret]
  iintro #HE H0 H1 H2 HO Hk
  iapply (outgo_kb m (N := 704) c 0 rfl (off14_eq0 c) rfl) $$ H0
  iintro H0
  iapply (stage_kb m (N := 704) c 1 rfl (off3_eq1 c) _ (fun a y => by unfold k0_pay22; exact congrFun (Idealize.ShloMosaic.shapeCast_self _ _) y)) $$ H1
  iintro H1
  iapply (outgo_kb m (N := 704) c 1 rfl (off14_eq1 c) rfl) $$ H1
  iintro H1
  iapply (stage_kb m (N := 640) c 2 rfl (off6_eq c) _ (fun a y => by unfold k0_pay23; exact congrFun (Idealize.ShloMosaic.shapeCast_self _ _) y)) $$ H2
  iintro H2
  iapply (outgo_kb m (N := 640) c 2 rfl (off15_eq c) rfl) $$ H2
  iintro H2
  iapply (wp_done c)
  iapply Hk $$ H0 H1 H2 HO

theorem part24 (c : Dev nD) (v7 v610 v634 : BitVec 32) {Q : PUnit → sProp 𝕄} :
    env m K ⊢ iprop(Z13 m 0 c -∗ Z13 m 1 c -∗ ow (F := F) c 15 -∗ (Z17 m 0 c -∗ Z14 m 1 c -∗ ow (F := F) c 15 -∗ Q ⟨⟩)
      -∗ WPc c (onBufs (k0_part24 (F := F)) c v7 v610 v634) Q) := by
  unfold onBufs
  rw [k0_part24_eq_skeleton]
  unfold k0_part24_skel
  simp only [Prog.lift, Prog.bind_op, Prog.bind_ret, Prog.pure_eq_ret]
  iintro #HE H0 H1 HO Hk
  iapply (left4 m K c 0 15 rfl rfl) $$ HE H0 HO
  iintro H0 HO
  iapply (came4 m K c 0 15 (by decide) rfl rfl) $$ HE H0 HO
  iintro H0 HO
  iapply (ld_ob m (N := 704) c 0 rfl (off16_eq0 c)) $$ H0
  iintro H0
  iapply (st_ob m (N := 704) c 0 rfl (off16_eq0 c) _ (fun y => by unfold k0_pay24; exact congrFun (Idealize.ShloMosaic.shapeCast_self _ _) y)) $$ H0
  iintro H0
  iapply (outgo_ob m (N := 704) c 0 rfl (off1_eq0 c) rfl) $$ H0
  iintro H0
  iapply (left4 m K c 1 15 rfl rfl) $$ HE H1 HO
  iintro H1 HO
  iapply (wp_done c)
  iapply Hk $$ H0 H1 HO

theorem part25 (c : Dev nD) (v9 v10 v658 : BitVec 32) {Q : FVec F S640x512 .f32 → sProp 𝕄} :
    env m K ⊢ iprop(Z14 m 1 c -∗ Z13 m 2 c -∗ ow (F := F) c 15 -∗ (Z17 m 1 c -∗ Z15 m 2 c -∗ ow (F := F) c 15 -∗ Q (k0_pay26 (M2.view.readAt (Elt F) (rU (n := 640) (k0_off17_inb c)).toLoadRect (OH m 2 (peer 2 0 c)))))
      -∗ WPc c (onBufs (k0_part25 (F := F)) c v9 v10 v658) Q) := by
  unfold onBufs
  rw [k0_part25_eq_skeleton]
  unfold k0_part25_skel
  simp only [Prog.lift, Prog.bind_op, Prog.bind_ret, Prog.pure_eq_ret]
  iintro #HE H1 H2 HO Hk
  iapply (came4 m K c 1 15 (by decide) rfl rfl) $$ HE H1 HO
  iintro H1 HO
  iapply (ld_ob m (N := 704) c 1 rfl (off16_eq1 c)) $$ H1
  iintro H1
  iapply (st_ob m (N := 704) c 1 rfl (off16_eq1 c) _ (fun y => by unfold k0_pay25; exact congrFun (Idealize.ShloMosaic.shapeCast_self _ _) y)) $$ H1
  iintro H1
  iapply (outgo_ob m (N := 704) c 1 rfl (off1_eq1 c) rfl) $$ H1
  iintro H1
  iapply (left4 m K c 2 15 rfl rfl) $$ HE H2 HO
  iintro H2 HO
  iapply (came4 m K c 2 15 (by decide) rfl rfl) $$ HE H2 HO
  iintro H2 HO
  iapply (ld_ob m (N := 640) c 2 rfl (off17_eq c)) $$ H2
  iintro H2
  iapply (wp_done c)
  iapply Hk $$ H1 H2 HO

theorem part26 (c : Dev nD) {Q : PUnit → sProp 𝕄} :
    env m K ⊢ iprop(Z15 m 2 c -∗ Z17 m 0 c -∗ Z17 m 1 c -∗ ow (F := F) c 15 -∗ (Z19 m 0 c -∗ Z19 m 1 c -∗ Z19 m 2 c -∗ ow (F := F) c 15 -∗ Q ⟨⟩)
      -∗ WPc c (onBufs (k0_part26 (F := F)) c (k0_pay26 (M2.view.readAt (Elt F) (rU (n := 640) (k0_off17_inb c)).toLoadRect (OH m 2 (peer 2 0 c))))) Q) := by
  unfold onBufs
  rw [k0_part26_eq_skeleton]
  unfold k0_part26_skel
  simp only [Prog.lift, Prog.bind_op, Prog.bind_ret, Prog.pure_eq_ret]
  iintro #HE H2 H0 H1 HO Hk
  iapply (st_ob m (N := 640) c 2 rfl (off17_eq c) _ (fun y => by unfold k0_pay27; exact congrFun (Idealize.ShloMosaic.shapeCast_self _ _) y)) $$ H2
  iintro H2
  iapply (outgo_ob m (N := 640) c 2 rfl (off2_eq c) rfl) $$ H2
  iintro H2
  iapply (outend_kb m K (N := 704) c 0 rfl rfl rfl) $$ HE H0 HO
  iintro H0 HO
  iapply (outend_kb m K (N := 704) c 1 rfl rfl rfl) $$ HE H1 HO
  iintro H1 HO
  iapply (outend_kb m K (N := 640) c 2 rfl rfl rfl) $$ HE H2 HO
  iintro H2 HO
  iapply (outend_ob m K (N := 704) c 0 rfl rfl rfl) $$ HE H0 HO
  iintro H0 HO
  iapply (outend_ob m K (N := 704) c 1 rfl rfl rfl) $$ HE H1 HO
  iintro H1 HO
  iapply (outend_ob m K (N := 640) c 2 rfl rfl rfl) $$ HE H2 HO
  iintro H2 HO
  iapply (wp_done c)
  iapply Hk $$ H0 H1 H2 HO

end Cert.KProof
-- ==== Proof.Body3.lean ====
/-
# The body

A device's buffers and rights cut into parts, the kernel's parts run one after another, and the
pieces put back together.
-/
module

public import proofs.«01_k».proof.Proof.Body2

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## A device's share of a part -/

/-- The rows of a part. -/
abbrev prow (p : Fin 3) : Finset S4096x512.Idx := rows (Bs p) (8 * Ks p)

theorem prow_halves (p : Fin 3) (c : Dev nD) : prow p = rows (kb p c) (4 * Ks p) ∪ rows (ob p c) (4 * Ks p) :=
  rows_union (by have := kb_lt p c; omega) (by omega)
theorem halves_disjoint (p : Fin 3) (c : Dev nD) : Disjoint (rows (kb p c) (4 * Ks p)) (rows (ob p c) (4 * Ks p)) :=
  rows_disjoint (by have := kb_lt p c; omega)
theorem soff_eq (p : Fin 3) : soff p 0 = Bs p ∧ soff p 1 = Bs p + 4 * Ks p ∧ soff p 2 = Bs p + 6 * Ks p := by revert p; decide
theorem prow_lands (p : Fin 3) : prow p = rows (soff p 0) (4 * Ks p) ∪ (rows (soff p 1) (2 * Ks p) ∪ rows (soff p 2) (2 * Ks p)) := by
  obtain ⟨h0, h1, h2⟩ := soff_eq p
  rw [← rows_union (lo := soff p 1) (n := 4 * Ks p) (Or.inl ⟨rfl, by omega⟩) (by omega)]
  exact rows_union (Or.inl ⟨h0, by omega⟩) (by omega)
theorem lands_disjoint (p : Fin 3) : Disjoint (rows (soff p 0) (4 * Ks p)) (rows (soff p 1) (2 * Ks p) ∪ rows (soff p 2) (2 * Ks p))
    ∧ Disjoint (rows (soff p 1) (2 * Ks p)) (rows (soff p 2) (2 * Ks p)) := by
  obtain ⟨h0, h1, h2⟩ := soff_eq p
  exact ⟨Finset.disjoint_union_right.mpr ⟨rows_disjoint (by omega), rows_disjoint (by omega)⟩, rows_disjoint (by omega)⟩
theorem prow_all : (Finset.univ : Finset S4096x512.Idx) = prow 0 ∪ (prow 1 ∪ prow 2) := by
  rw [← rows_all, ← rows_union (lo := 1408) (n := 2688) (a := Bs 1) (k := 8 * Ks 1) (b := Bs 2) (l := 8 * Ks 2) (Or.inl ⟨rfl, rfl⟩) rfl]
  exact rows_union (Or.inl ⟨rfl, rfl⟩) rfl
theorem prow_disjoint : Disjoint (prow 0) (prow 1 ∪ prow 2) ∧ Disjoint (prow 1) (prow 2) :=
  ⟨Finset.disjoint_union_right.mpr ⟨rows_disjoint (by decide), rows_disjoint (by decide)⟩, rows_disjoint (by decide)⟩

section Three
variable {b : Ref sig .tc} {c : Dev nD} {S A B C : Finset b.ty.Idx} (hS : S = A ∪ (B ∪ C)) (hd : Disjoint A (B ∪ C) ∧ Disjoint B C)
include hS hd
theorem any_split3 : any (F := F) b c S ⊢ iprop(any (F := F) b c A ∗ any (F := F) b c B ∗ any (F := F) b c C) :=
  (any_split hd.1 hS).trans (sep_mono_right (any_split hd.2 rfl))
theorem any_join3 : iprop(any (F := F) b c A ∗ any (F := F) b c B ∗ any (F := F) b c C) ⊢ any (F := F) b c S :=
  (sep_mono_right (any_join hd.2 rfl)).trans (any_join hd.1 hS)
theorem pt_join3 {f : b.ty.Contents (Elt F)} : iprop(pt b c A fullShare f ∗ pt b c B fullShare f ∗ pt b c C fullShare f) ⊢ (pt b c S fullShare f : sProp 𝕄) :=
  (sep_mono_right (pt_join hd.2 rfl)).trans (pt_join hd.1 hS)
end Three

/-- The rights to a part's transfers. -/
def toks (p : Fin 3) (c : Dev nD) : sProp 𝕄 :=
  iprop((trX (F := F) p 0 c ∗ trR (F := F) p 0 c) ∗ (trX (F := F) p 1 c ∗ trR (F := F) p 1 c) ∗ (trX (F := F) p 2 c ∗ trR (F := F) p 2 c)
    ∗ (trX (F := F) p 3 c ∗ trR (F := F) p 3 c) ∗ (trX (F := F) p 4 c ∗ trR (F := F) p 4 c))
/-- A part's counters, at zero. -/
def zeros (p : Fin 3) (c : Dev nD) : sProp 𝕄 := iprop(trZ (F := F) p 0 c ∗ trZ (F := F) p 1 c ∗ trZ (F := F) p 2 c ∗ trZ (F := F) p 3 c ∗ trZ (F := F) p 4 c)
abbrev outZ (p : Fin 3) (c : Dev nD) : sProp 𝕄 := iprop(cZ (F := F) c (jk p) ∗ cZ (F := F) c (jo p))
/-- The landing rows and the half that a device lends its neighbours, and those it borrows of them. -/
def near (p : Fin 3) (c : Dev nD) : sProp 𝕄 :=
  iprop(land (F := F) p 0 (4 * Ks p) c ∗ land (F := F) p 1 (2 * Ks p) c ∗ land (F := F) p 2 (2 * Ks p) c ∗ away (F := F) p c)
def far (p : Fin 3) (c : Dev nD) : sProp 𝕄 :=
  iprop(land (F := F) p 0 (4 * Ks p) (peer p 0 c) ∗ land (F := F) p 1 (2 * Ks p) (peer p 1 c) ∗ land (F := F) p 2 (2 * Ks p) (peer p 2 c) ∗ away (F := F) p (peer p 0 c))
/-- What it keeps. -/
def mine (p : Fin 3) (c : Dev nD) : sProp 𝕄 :=
  iprop(any (F := F) cc0_scratch2 c (rows (kb p c) (4 * Ks p)) ∗ toks (F := F) p c ∗ outE (F := F) c (jk p) (kb p c) (4 * Ks p) ∗ outE (F := F) c (jo p) (ob p c) (4 * Ks p))

/-- A part at the start, and at the end. -/
def part0 (p : Fin 3) (c : Dev nD) : sProp 𝕄 :=
  iprop(toks (F := F) p c ∗ outZ (F := F) p c ∗ any (F := F) cc0_scratch2 c (prow p) ∗ any (F := F) cc0_scratch3 c (prow p)
    ∗ any (F := F) cc0_scratch4 c (prow p) ∗ any (F := F) main_v1 c (prow p))
def partN (p : Fin 3) (c : Dev nD) : sProp 𝕄 :=
  iprop(zeros (F := F) p c ∗ outZ (F := F) p c ∗ any (F := F) cc0_scratch1 c (prow p) ∗ any (F := F) cc0_scratch2 c (prow p) ∗ any (F := F) cc0_scratch3 c (prow p)
    ∗ any (F := F) cc0_scratch4 c (prow p) ∗ pt main_v1 c (prow p) fullShare (OUT m c))

theorem part0_split (p : Fin 3) (c : Dev nD) : part0 (F := F) p c ⊢ iprop(mine (F := F) p c ∗ near (F := F) p c) := by
  unfold part0 mine near land away outE
  iintro ⟨HT, ⟨HZ1, HZ2⟩, H2, H3, H4, HO⟩
  ihave H2 := (any_split (b := cc0_scratch2) (halves_disjoint p c) (prow_halves p c)) $$ H2
  ihave H4 := (any_split (b := cc0_scratch4) (halves_disjoint p c) (prow_halves p c)) $$ H4
  ihave HO := (any_split (b := main_v1) (halves_disjoint p c) (prow_halves p c)) $$ HO
  ihave H3 := (any_split3 (b := cc0_scratch3) (prow_lands p) (lands_disjoint p)) $$ H3
  icases H2 with ⟨H2, H2'⟩
  icases H4 with ⟨H4, H4'⟩
  icases HO with ⟨HO, HO'⟩
  isplitl [HT HZ1 HZ2 H2 H4 H4' HO HO']
  · isplitl [H2]; · iexact H2
    isplitl [HT]; · iexact HT
    isplitl [H4 HO HZ1]
    · isplitl [H4]; · iexact H4
      isplitl [HO] <;> iassumption
    isplitl [H4']; · iexact H4'
    isplitl [HO'] <;> iassumption
  unfold any
  icases H3 with ⟨H3, H3', H3''⟩
  isplitl [H3]; · iexact H3
  isplitl [H3']; · iexact H3'
  isplitl [H3''] <;> iassumption

theorem rest_intro (p : Fin 3) (c : Dev nD) : iprop(mine (F := F) p c ∗ far (F := F) p c) ⊢ iprop(any (F := F) cc0_scratch2 c (rows (kb p c) (4 * Ks p)) ∗ rest0 (F := F) p c) := by
  unfold mine far toks rest0 rest1 rest2 rest3 rest4
  iintro ⟨⟨HA, ⟨⟨HX0, HR0⟩, ⟨HX1, HR1⟩, ⟨HX2, HR2⟩, ⟨HX3, HR3⟩, HX4, HR4⟩, HE, HE'⟩, HL0, HL1, HL2, HL3⟩
  isplitl [HA]; · iexact HA
  isplitl [HX0]; · iexact HX0
  isplitl [HR0]; · iexact HR0
  isplitl [HL0]; · iexact HL0
  isplitl [HX1]; · iexact HX1
  isplitl [HR1]; · iexact HR1
  isplitl [HL1]; · iexact HL1
  isplitl [HX2]; · iexact HX2
  isplitl [HR2]; · iexact HR2
  isplitl [HL2]; · iexact HL2
  isplitl [HX3]; · iexact HX3
  isplitl [HR3]; · iexact HR3
  isplitl [HX4]; · iexact HX4
  isplitl [HR4]; · iexact HR4
  isplitl [HL3]; · iexact HL3
  isplitl [HE] <;> iassumption

theorem partN_intro (p : Fin 3) (c : Dev nD) : Z19 m p c ⊢ partN m p c := by
  unfold Z19 done4 done3 done2 done1 done0 partN zeros outD recvPay land
  iintro ⟨⟨⟨⟨⟨⟨HZ0, H1, H1', HL0⟩, HZ1, HL1⟩, HZ2, HL2⟩, HZ3⟩, HZ4⟩, H2, H2', ⟨HO, H4, HC⟩, HO', H4', HC'⟩
  isplitl [HZ0 HZ1 HZ2 HZ3 HZ4]
  · isplitl [HZ0]; · iexact HZ0
    isplitl [HZ1]; · iexact HZ1
    isplitl [HZ2]; · iexact HZ2
    isplitl [HZ3] <;> iassumption
  isplitl [HC HC']; · isplitl [HC] <;> iassumption
  isplitl [H1 H1']
  · iapply (any_join (b := cc0_scratch1) (halves_disjoint p c) (prow_halves p c))
    isplitl [H1] <;> iassumption
  isplitl [H2 H2']
  · iapply (any_join (b := cc0_scratch2) (halves_disjoint p c) (prow_halves p c))
    isplitl [H2]; · iexact H2
    iapply (any_intro (b := cc0_scratch2)); iexact H2'
  isplitl [HL0 HL1 HL2]
  · iapply (any_join3 (b := cc0_scratch3) (prow_lands p) (lands_disjoint p))
    unfold any
    isplitl [HL0]; · iexact HL0
    isplitl [HL1] <;> iassumption
  isplitl [H4 H4']
  · iapply (any_join (b := cc0_scratch4) (halves_disjoint p c) (prow_halves p c))
    isplitl [H4]
    · iapply (any_intro (b := cc0_scratch4)); iexact H4
    iapply (any_intro (b := cc0_scratch4)); iexact H4'
  iapply (pt_join (b := main_v1) (halves_disjoint p c) (prow_halves p c))
  isplitl [HO] <;> iassumption

/-- What a device lends, sorted by edge; what it borrows, sorted by part. -/
theorem lend (c : Dev nD) : iprop(near (F := F) 0 c ∗ near (F := F) 1 c ∗ near (F := F) 2 c) ⊢ iprop(give (F := F) 0 c ∗ give (F := F) 1 c ∗ give (F := F) 2 c) := by
  unfold near give
  iintro ⟨⟨H00, H01, H02, H03⟩, ⟨H10, H11, H12, H13⟩, H20, H21, H22, H23⟩
  isplitl [H02 H11 H20 H23]
  · isplitl [H02]; · iexact H02
    isplitl [H11]; · iexact H11
    isplitl [H20] <;> iassumption
  isplitl [H01 H10 H22 H13]
  · isplitl [H01]; · iexact H01
    isplitl [H10]; · iexact H10
    isplitl [H22] <;> iassumption
  isplitl [H00]; · iexact H00
  isplitl [H12]; · iexact H12
  isplitl [H21] <;> iassumption

theorem borrow (c : Dev nD) : iprop(barPay (F := F) 0 c ∗ barPay (F := F) 1 c ∗ barPay (F := F) 2 c) ⊢ iprop(far (F := F) 0 c ∗ far (F := F) 1 c ∗ far (F := F) 2 c) := by
  unfold far barPay give
  simp only [show peer 0 0 c = par 2 c from rfl, show peer 0 1 c = par 1 c from rfl, show peer 0 2 c = par 0 c from rfl,
    show peer 1 0 c = par 1 c from rfl, show peer 1 1 c = par 0 c from rfl, show peer 1 2 c = par 2 c from rfl,
    show peer 2 0 c = par 0 c from rfl, show peer 2 1 c = par 2 c from rfl, show peer 2 2 c = par 1 c from rfl]
  iintro ⟨⟨H02, H11, H20, H23⟩, ⟨H01, H10, H22, H13⟩, H00, H12, H21, H03⟩
  isplitl [H00 H01 H02 H03]
  · isplitl [H00]; · iexact H00
    isplitl [H01]; · iexact H01
    isplitl [H02] <;> iassumption
  isplitl [H10 H11 H12 H13]
  · isplitl [H10]; · iexact H10
    isplitl [H11]; · iexact H11
    isplitl [H12] <;> iassumption
  isplitl [H20]; · iexact H20
  isplitl [H21]; · iexact H21
  isplitl [H22] <;> iassumption

/-! ## The input and the double buffer -/

theorem bats_all : (Finset.univ : Finset S4x1024x512.Idx) = bat 0 ∪ (bat 1 ∪ (bat 2 ∪ bat 3)) := by
  ext i
  have h : (i 0).val < 4 := (i 0).isLt
  simp only [Finset.mem_univ, Finset.mem_union, mem_bat, true_iff]
  show (i 0).val = 0 ∨ (i 0).val = 1 ∨ (i 0).val = 2 ∨ (i 0).val = 3
  omega
theorem bat_disjoint {a b : Fin 4} (h : a.val ≠ b.val) : Disjoint (bat a) (bat b) := by
  rw [Finset.disjoint_left]; intro i h1 h2
  rw [mem_bat] at h1 h2; omega
theorem bats_disjoint : Disjoint (bat 0) (bat 1 ∪ (bat 2 ∪ bat 3)) ∧ Disjoint (bat 1) (bat 2 ∪ bat 3) ∧ Disjoint (bat 2) (bat 3) :=
  ⟨Finset.disjoint_union_right.mpr ⟨bat_disjoint (by decide), Finset.disjoint_union_right.mpr ⟨bat_disjoint (by decide), bat_disjoint (by decide)⟩⟩,
    Finset.disjoint_union_right.mpr ⟨bat_disjoint (by decide), bat_disjoint (by decide)⟩, bat_disjoint (by decide)⟩
theorem slots_all : (Finset.univ : Finset S2x1032x512.Idx) = slot 0 ∪ slot 1 := by
  ext i
  have h : (i 0).val < 2 := (i 0).isLt
  simp only [Finset.mem_univ, Finset.mem_union, mem_slot, true_iff]
  omega
theorem slots_disjoint : Disjoint (slot 0) (slot 1) := by
  rw [Finset.disjoint_left]; intro i h1 h2
  rw [mem_slot] at h1 h2; omega

abbrev inX (c : Dev nD) : sProp 𝕄 := pt main_arg0 c Finset.univ fullShare (xarr m c)
theorem x_split (c : Dev nD) : inX m c ⊢ iprop(XB m c 0 ∗ XB m c 1 ∗ XB m c 2 ∗ XB m c 3) :=
  (pt_split (b := main_arg0) bats_disjoint.1 bats_all).trans (sep_mono_right ((pt_split (b := main_arg0) bats_disjoint.2.1 rfl).trans (sep_mono_right (pt_split (b := main_arg0) bats_disjoint.2.2 rfl))))
theorem x_join (c : Dev nD) : iprop(XB m c 0 ∗ XB m c 1 ∗ XB m c 2 ∗ XB m c 3) ⊢ inX m c :=
  (sep_mono_right ((sep_mono_right (pt_join (b := main_arg0) bats_disjoint.2.2 rfl)).trans (pt_join (b := main_arg0) bats_disjoint.2.1 rfl))).trans
    (pt_join (b := main_arg0) bats_disjoint.1 bats_all)

/-! ## The whole body -/

abbrev full (b : Ref sig .tc) (c : Dev nD) : sProp 𝕄 := any (F := F) b c Finset.univ

/-- The buffers that are the kernel's own. -/
def scr (c : Dev nD) : sProp 𝕄 :=
  iprop(full (F := F) cc0_scratch0 c ∗ full (F := F) cc0_scratch1 c ∗ full (F := F) cc0_scratch2 c ∗ full (F := F) cc0_scratch3 c ∗ full (F := F) cc0_scratch4 c)
/-- The counters of its local copies. -/
def locZ (c : Dev nD) : sProp 𝕄 := iprop((xZ (F := F) c 0 ∗ xZ (F := F) c 1) ∗ outZ (F := F) 0 c ∗ outZ (F := F) 1 c ∗ outZ (F := F) 2 c)
/-- The rights it starts with. -/
def rights (c : Dev nD) : sProp 𝕄 :=
  iprop((dutyTok ER (barCell (par 0 c)) 0 (0 : Fin 3) ∗ dutyTok ER (barCell (par 1 c)) 0 (1 : Fin 3) ∗ dutyTok ER (barCell (par 2 c)) 0 (2 : Fin 3))
    ∗ barR (F := F) c ∗ toks (F := F) 0 c ∗ toks (F := F) 1 c ∗ toks (F := F) 2 c)

theorem parts_intro (c : Dev nD) :
    iprop((toks (F := F) 0 c ∗ toks (F := F) 1 c ∗ toks (F := F) 2 c) ∗ (outZ (F := F) 0 c ∗ outZ (F := F) 1 c ∗ outZ (F := F) 2 c)
        ∗ full (F := F) cc0_scratch2 c ∗ full (F := F) cc0_scratch3 c ∗ full (F := F) cc0_scratch4 c ∗ full (F := F) main_v1 c)
      ⊢ iprop(part0 (F := F) 0 c ∗ part0 (F := F) 1 c ∗ part0 (F := F) 2 c) := by
  unfold part0
  iintro ⟨⟨HT0, HT1, HT2⟩, ⟨HZ0, HZ1, HZ2⟩, H2, H3, H4, HO⟩
  ihave H2 := (any_split3 (b := cc0_scratch2) prow_all prow_disjoint) $$ H2
  ihave H3 := (any_split3 (b := cc0_scratch3) prow_all prow_disjoint) $$ H3
  ihave H4 := (any_split3 (b := cc0_scratch4) prow_all prow_disjoint) $$ H4
  ihave HO := (any_split3 (b := main_v1) prow_all prow_disjoint) $$ HO
  icases H2 with ⟨H20, H21, H22⟩
  icases H3 with ⟨H30, H31, H32⟩
  icases H4 with ⟨H40, H41, H42⟩
  icases HO with ⟨HO0, HO1, HO2⟩
  isplitl [HT0 HZ0 H20 H30 H40 HO0]
  · isplitl [HT0]; · iexact HT0
    isplitl [HZ0]; · iexact HZ0
    isplitl [H20]; · iexact H20
    isplitl [H30]; · iexact H30
    isplitl [H40] <;> iassumption
  isplitl [HT1 HZ1 H21 H31 H41 HO1]
  · isplitl [HT1]; · iexact HT1
    isplitl [HZ1]; · iexact HZ1
    isplitl [H21]; · iexact H21
    isplitl [H31]; · iexact H31
    isplitl [H41] <;> iassumption
  isplitl [HT2]; · iexact HT2
  isplitl [HZ2]; · iexact HZ2
  isplitl [H22]; · iexact H22
  isplitl [H32]; · iexact H32
  isplitl [H42] <;> iassumption

theorem parts_elim (c : Dev nD) : iprop(partN m 0 c ∗ partN m 1 c ∗ partN m 2 c)
    ⊢ iprop((zeros (F := F) 0 c ∗ zeros (F := F) 1 c ∗ zeros (F := F) 2 c) ∗ (outZ (F := F) 0 c ∗ outZ (F := F) 1 c ∗ outZ (F := F) 2 c)
        ∗ full (F := F) cc0_scratch1 c ∗ full (F := F) cc0_scratch2 c ∗ full (F := F) cc0_scratch3 c ∗ full (F := F) cc0_scratch4 c
        ∗ pt main_v1 c Finset.univ fullShare (OUT m c)) := by
  unfold partN
  iintro ⟨⟨HT0, HZ0, H10, H20, H30, H40, HO0⟩, ⟨HT1, HZ1, H11, H21, H31, H41, HO1⟩, HT2, HZ2, H12, H22, H32, H42, HO2⟩
  isplitl [HT0 HT1 HT2]
  · isplitl [HT0]; · iexact HT0
    isplitl [HT1] <;> iassumption
  isplitl [HZ0 HZ1 HZ2]
  · isplitl [HZ0]; · iexact HZ0
    isplitl [HZ1] <;> iassumption
  isplitl [H10 H11 H12]
  · iapply (any_join3 (b := cc0_scratch1) prow_all prow_disjoint)
    isplitl [H10]; · iexact H10
    isplitl [H11] <;> iassumption
  isplitl [H20 H21 H22]
  · iapply (any_join3 (b := cc0_scratch2) prow_all prow_disjoint)
    isplitl [H20]; · iexact H20
    isplitl [H21] <;> iassumption
  isplitl [H30 H31 H32]
  · iapply (any_join3 (b := cc0_scratch3) prow_all prow_disjoint)
    isplitl [H30]; · iexact H30
    isplitl [H31] <;> iassumption
  isplitl [H40 H41 H42]
  · iapply (any_join3 (b := cc0_scratch4) prow_all prow_disjoint)
    isplitl [H40]; · iexact H40
    isplitl [H41] <;> iassumption
  iapply (pt_join3 (b := main_v1) prow_all prow_disjoint)
  isplitl [HO0]; · iexact HO0
  isplitl [HO1] <;> iassumption

theorem pb_intro (c : Dev nD) : full (F := F) cc0_scratch1 c ⊢ PB m c 0 0 := by
  unfold full any PB
  iintro ⟨%f, H⟩
  iexists f
  rw [show rows 0 (4096 - 0) = Finset.univ from rows_all]
  iapply (pt_congr (b := cc0_scratch1) (fun i _ => (if_neg (by omega)).symm)); iexact H

/-- One step of a run, then the others. -/
theorem run_then {α β : Type} (c : Dev nD) {p : Prog (TpuEff nD τ sig (Elt F) Λ₀ .tc) α} {k : α → Prog (TpuEff nD τ sig (Elt F) Λ₀ .tc) β} {Q : β → sProp 𝕄} :
    WPc c p (fun a => WPc c (k a) Q) ⊢ WPc c (p >>= k) Q := Entails.of_eq (wp_bind ..).symm

theorem body (c : Dev nD) (Kt : PUnit → sProp 𝕄) :
    env m K ⊢ iprop(rights (F := F) c -∗ locZ (F := F) c -∗ owB (F := F) c (dB c 0 :: dB c 1 :: dB c 2 :: owedR c 0)
      -∗ inX m c -∗ kS m c -∗ wS m c -∗ full (F := F) main_v1 c -∗ scr (F := F) c
      -∗ ((semVal (barCell c) 0 ∗ zeros (F := F) 0 c ∗ zeros (F := F) 1 c ∗ zeros (F := F) 2 c) -∗ locZ (F := F) c -∗ ow (F := F) c 15
          -∗ inX m c -∗ kS m c -∗ wS m c -∗ pt main_v1 c Finset.univ fullShare (OUT m c) -∗ scr (F := F) c -∗ Kt ⟨⟩)
      -∗ WPc c (onBufs (cc0_body (F := F))) Kt) := by
  unfold onBufs cc0_body rights locZ scr
  iintro #HE ⟨⟨Ht0, Ht1, Ht2⟩, HR, HT⟩ ⟨⟨HX0, HX1⟩, HZ⟩ HO HX Hk0 Hw HV ⟨H0, H1, H2, H3, H4⟩ Hk
  ihave HP := (parts_intro c) $$ [HT HZ H2 H3 H4 HV]
  · isplitl [HT]; · iexact HT
    isplitl [HZ]; · iexact HZ
    isplitl [H2]; · iexact H2
    isplitl [H3]; · iexact H3
    isplitl [H4] <;> iassumption
  icases HP with ⟨HP0, HP1, HP2⟩
  ihave HP0 := (part0_split 0 c) $$ HP0
  ihave HP1 := (part0_split 1 c) $$ HP1
  ihave HP2 := (part0_split 2 c) $$ HP2
  icases HP0 with ⟨HM0, HN0⟩
  icases HP1 with ⟨HM1, HN1⟩
  icases HP2 with ⟨HM2, HN2⟩
  ihave HG := (lend c) $$ [HN0 HN1 HN2]
  · isplitl [HN0]; · iexact HN0
    isplitl [HN1] <;> iassumption
  icases HG with ⟨HG0, HG1, HG2⟩
  ihave HX := (x_split m c) $$ HX
  icases HX with ⟨HB0, HB1, HB2, HB3⟩
  ihave H0 := (any_split (b := cc0_scratch0) slots_disjoint slots_all) $$ H0
  icases H0 with ⟨HS0, HS1⟩
  ihave HPB := (pb_intro m c) $$ H1
  iapply (run_then c)
  iapply (part1 m K c) $$ [Ht0 HG0 Ht1 HG1 HO]
  · isplitr; · iexact HE
    isplitl [Ht0]; · iexact Ht0
    isplitl [HG0]; · iexact HG0
    isplitl [Ht1]; · iexact Ht1
    isplitl [HG1] <;> iassumption
  iintro %v5 %v7 %v9 %v10 HO
  dsimp only
  iapply (run_then c)
  iapply (part2 m K c) $$ HE Ht2 HG2 HO HS0 HS1 Hw HB0 HB1 HX0 HX1
  iintro HF0 HF1 Hw HO
  ihave HO := (show owB (F := F) c (owedR c 0) ⊢ ow c 0 from by unfold ow owB; exact Entails.refl _) $$ HO
  iapply (run_then c)
  iapply (part3 m K c) $$ HE HF0 Hk0 HO
  iintro HS0 HB0 HX0 Hk0 HO
  iapply (run_then c)
  iapply (part4 m K c) $$ HE HPB HS0 HB2 HX0 HF1 Hk0 HO
  iintro HPB HF0 HS1 HB1 HX1 Hk0 HO
  dsimp only
  iapply (run_then c)
  iapply (part5 m K c v5 v7) $$ HE HPB HS1 Hk0 HR HO
  iintro %r5 HPB HS1 Hk0 HbZ Hp0 Hp1 Hp2 HO
  obtain ⟨v142, v149⟩ := r5
  dsimp only
  ihave HF := (borrow c) $$ [Hp0 Hp1 Hp2]
  · isplitl [Hp0]; · iexact Hp0
    isplitl [Hp1] <;> iassumption
  icases HF with ⟨HN0, HN1, HN2⟩
  ihave HM0 := (rest_intro 0 c) $$ [HM0 HN0]
  · isplitl [HM0] <;> iassumption
  ihave HM1 := (rest_intro 1 c) $$ [HM1 HN1]
  · isplitl [HM1] <;> iassumption
  ihave HM2 := (rest_intro 2 c) $$ [HM2 HN2]
  · isplitl [HM2] <;> iassumption
  icases HM0 with ⟨HA0, HR0⟩
  icases HM1 with ⟨HA1, HR1⟩
  icases HM2 with ⟨HA2, HR2⟩
  ihave HPB := (show PB m c 0 2 ⊢ PB m c (Bs 0) 2 from Entails.refl _) $$ HPB
  ihave HPB := (pb_take m c 0 2 (by decide)) $$ HPB
  icases HPB with ⟨HQ0, HQ0', HPB⟩
  iapply (run_then c)
  iapply (part6 m K c) $$ HE [HQ0 HQ0' HA0 HR0] HB3 HS1 HX1 HF0 Hk0 HO
  · unfold Z0
    isplitl [HQ0]; · iexact HQ0
    isplitl [HQ0']; · iexact HQ0'
    isplitl [HA0] <;> iassumption
  iintro HZ0 HF1 HS0 HB2 HX0 Hk0 HO
  ihave HPB := (show PB m c (Bs 0 + 8 * Ks 0) 2 ⊢ PB m c (Bs 1) 2 from Entails.refl _) $$ HPB
  iapply (run_then c)
  iapply (part7 m c v5 v9) $$ HS0 Hk0 HPB
  iintro %r7 HS0 Hk0 HPB
  obtain ⟨v206, v213⟩ := r7
  dsimp only
  ihave HPB := (pb_take m c 1 3 (by decide)) $$ HPB
  icases HPB with ⟨HQ1, HQ1', HPB⟩
  iapply (run_then c)
  iapply (part8 m K c) $$ HE [HQ1 HQ1' HA1 HR1] HF1 Hk0 HO
  · unfold Z0
    isplitl [HQ1]; · iexact HQ1
    isplitl [HQ1']; · iexact HQ1'
    isplitl [HA1] <;> iassumption
  iintro HZ1 HS1 HB3 HX1 Hk0 HO
  ihave HPB := (show PB m c (Bs 1 + 8 * Ks 1) 3 ⊢ PB m c (Bs 2) 3 from Entails.refl _) $$ HPB
  iapply (run_then c)
  iapply (part9 m K c v5 v10) $$ HE HS1 Hk0 HPB HA2 HR2 HO
  iintro %r9 HS1 Hk0 HZ2 HO
  obtain ⟨v264, v271⟩ := r9
  dsimp only
  iapply (run_then c)
  iapply (part10 m K c v5 v7 v9 v142 v149) $$ HE HZ0 HO
  iintro %r10 HZ0 HO
  obtain ⟨v301, v308⟩ := r10
  dsimp only
  iapply (run_then c)
  iapply (part11 m K c v5 v9 v10 v206 v213) $$ HE HZ0 HZ1 HO
  iintro %r11 HZ0 HZ1 HO
  obtain ⟨v338, v342, w⟩ := r11
  dsimp only
  iapply (run_then c)
  iapply (part12 m K c v10 v264 v271 v342 w) $$ HE HZ1 HZ2 HO
  iintro %r12 HZ1 HZ2 HO
  obtain ⟨v345, v372⟩ := r12
  dsimp only
  iapply (run_then c)
  iapply (part13 m K c v5 v7 v301 v308 v372) $$ HE HZ2 HZ0 HO
  iintro %r13 HZ2 HZ0 HO
  obtain ⟨v375, v382⟩ := r13
  dsimp only
  iapply (run_then c)
  iapply (part14 m K c v5 v7 v9 v301 v345) $$ HE HZ0 HZ1 HO
  iintro %r14 HZ0 HZ1 HO
  obtain ⟨v412, v416⟩ := r14
  dsimp only
  iapply (run_then c)
  iapply (part15 m K c v5 v9 v10 v338) $$ HE HZ1 HZ2 HO
  iintro %r15 HZ1 HZ2 HO
  obtain ⟨v446, v450⟩ := r15
  dsimp only
  iapply (run_then c)
  iapply (part16 m K c v5 v7 v10 v375 v382) $$ HE HZ2 HO
  iintro %r16 HZ2 HO
  obtain ⟨v480, v484⟩ := r16
  dsimp only
  iapply (run_then c)
  iapply (part17 m K c v5 v7 v9 v412 v416) $$ HE HZ0 HO
  iintro %v518 HZ0 HO
  iapply (run_then c)
  iapply (part18 m K c v5 v9 v10 v446 v450) $$ HE HZ0 HZ1 HO
  iintro %r18 HZ0 HZ1 HO
  obtain ⟨v552, v553⟩ := r18
  dsimp only
  iapply (run_then c)
  iapply (part19 m K c v5 v7 v10 v480 v484 v553) $$ HE HZ1 HZ2 HO
  iintro %r19 HZ1 HZ2 HO
  obtain ⟨v583, v584⟩ := r19
  dsimp only
  iapply (run_then c)
  iapply (part20 m K c v5 v7 v518 v583 v584) $$ HE HZ2 HZ0 HO
  iintro %r20 HZ2 HZ0 HO
  obtain ⟨v586, v610⟩ := r20
  dsimp only
  iapply (run_then c)
  iapply (part21 m K c v5 v9 v552) $$ HE HZ0 HZ1 HO
  iintro %v634 HZ0 HZ1 HO
  iapply (run_then c)
  iapply (part22 m K c v5 v7 v10 v586) $$ HE HZ2 HZ0 HO
  iintro %v658 HZ2 HZ0 HO
  iapply (run_then c)
  iapply (part23 m K c v9 v10) $$ HE HZ0 HZ1 HZ2 HO
  iintro HZ0 HZ1 HZ2 HO
  iapply (run_then c)
  iapply (part24 m K c v7 v610 v634) $$ HE HZ0 HZ1 HO
  iintro HZ0 HZ1 HO
  iapply (run_then c)
  iapply (part25 m K c v9 v10 v658) $$ HE HZ1 HZ2 HO
  iintro HZ1 HZ2 HO
  iapply (run_then c)
  iapply (part26 m K c) $$ HE HZ2 HZ0 HZ1 HO
  iintro HZ0 HZ1 HZ2 HO
  ihave HZ0 := (partN_intro m 0 c) $$ HZ0
  ihave HZ1 := (partN_intro m 1 c) $$ HZ1
  ihave HZ2 := (partN_intro m 2 c) $$ HZ2
  ihave HP := (parts_elim m c) $$ [HZ0 HZ1 HZ2]
  · isplitl [HZ0]; · iexact HZ0
    isplitl [HZ1] <;> iassumption
  icases HP with ⟨HT, HZ, H1, H2, H3, H4, HV⟩
  iapply (wp_done c)
  iapply Hk $$ [HbZ HT] [HX0 HX1 HZ] HO [HB0 HB1 HB2 HB3] Hk0 Hw HV [HS0 HS1 H1 H2 H3 H4]
  · isplitl [HbZ] <;> iassumption
  · isplitl [HX0 HX1]; · isplitl [HX0] <;> iassumption
    iexact HZ
  · iapply (x_join m c)
    isplitl [HB0]; · iexact HB0
    isplitl [HB1]; · iexact HB1
    isplitl [HB2] <;> iassumption
  isplitl [HS0 HS1]
  · iapply (any_join (b := cc0_scratch0) slots_disjoint slots_all)
    isplitl [HS0]
    · iapply (any_intro (b := cc0_scratch0)); iexact HS0
    iapply (any_intro (b := cc0_scratch0)); iexact HS1
  isplitl [H1]; · iexact H1
  isplitl [H2]; · iexact H2
  isplitl [H3] <;> iassumption

end Cert.KProof
-- ==== Proof.Deal.lean ====
/-
# The launch's deal

A device's semaphores made into cells, the rights to them dealt to the devices that use them, and
the credit each starts with.
-/
module

public import proofs.«01_k».proof.Proof.Body3

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## A device's semaphores, listed -/

abbrev PS : Type := Fin 3 × Fin 5
/-- The kernel's own semaphores: the exchange's, the two of the loads, the six of the stores, and six unused. -/
abbrev OI : Type := (Bool × PS) ⊕ (Fin 2 ⊕ (Fin 6 ⊕ Fin 6))
def spS (j : Fin 6) : DmaSem sig := ⟨15 + 6 * j.val, by have := j.isLt; show _ < 46; omega⟩
def osem : OI → SemLoc sig
  | .inl x => csem (some x)
  | .inr (.inl j) => .dma (xS j)
  | .inr (.inr (.inl j)) => .dma (cS j)
  | .inr (.inr (.inr j)) => .dma (spS j)
theorem ownSemFacts : Pipeline.OwnSemFacts cfg0.spec osem := by decide +kernel

section Lists
variable {M : Type} [URA M]
theorem bigSep_dir (Φ : Bool × PS → sProp M) : bigSep Finset.univ Φ
    = iprop(bigSep Finset.univ (fun x : PS => Φ (false, x)) ∗ bigSep Finset.univ fun x : PS => Φ (true, x)) := by
  rw [bigSep_univ_prod]; exact bigSep_univ_eq_bigSepL [false, true] (by decide) (by decide) _
theorem bigSep_cells (Φ : CI → sProp M) : bigSep Finset.univ Φ
    = iprop(Φ none ∗ bigSep Finset.univ (fun x : PS => Φ (some (false, x))) ∗ bigSep Finset.univ fun x : PS => Φ (some (true, x))) := by
  rw [bigSep_univ_equiv ((Equiv.sumComm PUnit.{1} (Bool × PS)).trans (Equiv.optionEquivSumPUnit.{0} (Bool × PS)).symm) Φ, bigSep_univ_sum,
    bigSep_univ_of_subsingleton (i := PUnit.unit), bigSep_dir]
  rfl
theorem bigSep_five (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) _
theorem bigSep_six (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) _
theorem bigSep_three (Φ : Fin 3 → sProp M) : bigSep Finset.univ Φ = iprop(Φ 0 ∗ Φ 1 ∗ Φ 2) :=
  bigSep_univ_eq_bigSepL [0, 1, 2] (by decide) (by decide) _
theorem bigSep_two (Φ : Fin 2 → sProp M) : bigSep Finset.univ Φ = iprop(Φ 0 ∗ Φ 1) :=
  bigSep_univ_eq_bigSepL [0, 1] (by decide) (by decide) _
theorem bigSep_duties (Φ : Fin 3 ⊕ (Bool × PS) → sProp M) : bigSep Finset.univ Φ
    = iprop((Φ (.inl 0) ∗ Φ (.inl 1) ∗ Φ (.inl 2)) ∗ bigSep Finset.univ (fun x : PS => Φ (.inr (false, x))) ∗ bigSep Finset.univ fun x : PS => Φ (.inr (true, x))) := by
  rw [bigSep_univ_sum, bigSep_three, bigSep_dir]; rfl
theorem bigSep_parts (Φ : PS → sProp M) : bigSep Finset.univ Φ
    = iprop(bigSep Finset.univ (fun s => Φ (0, s)) ∗ bigSep Finset.univ (fun s => Φ (1, s)) ∗ bigSep Finset.univ fun s => Φ (2, s)) := by
  rw [bigSep_univ_prod, bigSep_three]
end Lists

def spare (c : Dev nD) : sProp 𝕄 := bigSep Finset.univ fun j : Fin 6 => semVal ((c : Thread nD τ), .dma (spS j)) 0

theorem toks_eq (p : Fin 3) (c : Dev nD) : (bigSep Finset.univ fun s : Fin 5 => iprop(trX (F := F) p s c ∗ trR (F := F) p s c)) = toks (F := F) p c := by
  rw [bigSep_five]; rfl
theorem zeros_eq (p : Fin 3) (c : Dev nD) : (bigSep Finset.univ fun s : Fin 5 => trZ (F := F) p s c) = zeros (F := F) p c := by
  rw [bigSep_five]; rfl

/-- The loads' and stores' semaphores. -/
theorem locZ_intro (c : Dev nD) : iprop(bigSep Finset.univ (fun j : Fin 2 => xZ (F := F) c j) ∗ bigSep Finset.univ fun j : Fin 6 => cZ (F := F) c j) ⊢ locZ (F := F) c := by
  rw [bigSep_six, bigSep_two]
  unfold locZ outZ
  iintro ⟨H, H0, H1, H2, H3, H4, H5⟩
  isplitl [H]; · iexact H
  isplitl [H0 H1]; · isplitl [H0]; · iexact H0
                     iexact H1
  isplitl [H2 H3]; · isplitl [H2]; · iexact H2
                     iexact H3
  isplitl [H4]; · iexact H4
  iexact H5
theorem locZ_elim (c : Dev nD) : locZ (F := F) c ⊢ iprop(bigSep Finset.univ (fun j : Fin 2 => xZ (F := F) c j) ∗ bigSep Finset.univ fun j : Fin 6 => cZ (F := F) c j) := by
  rw [bigSep_six, bigSep_two]
  unfold locZ outZ
  iintro ⟨H, ⟨H0, H1⟩, ⟨H2, H3⟩, H4, H5⟩
  isplitl [H]; · iexact H
  isplitl [H0]; · iexact H0
  isplitl [H1]; · iexact H1
  isplitl [H2]; · iexact H2
  isplitl [H3]; · iexact H3
  isplitl [H4]; · iexact H4
  iexact H5

abbrev own0 (c : Dev nD) : sProp 𝕄 := Pipeline.ownSems0 (Ix := Unit) (Name := ℕ) (U := UU) (Lvl := ℕ) (Val := Elt F) (τ := τ) osem c

theorem own0_eq (c : Dev nD) : own0 (F := F) c
    = iprop((bigSep Finset.univ (fun x : PS => semVal (kcell c (some (false, x))) 0) ∗ bigSep Finset.univ fun x : PS => semVal (kcell c (some (true, x))) 0)
      ∗ bigSep Finset.univ (fun j : Fin 2 => xZ (F := F) c j) ∗ bigSep Finset.univ (fun j : Fin 6 => cZ (F := F) c j) ∗ spare (F := F) c) := by
  unfold own0 Pipeline.ownSems0
  rw [bigSep_univ_sum, bigSep_univ_sum, bigSep_univ_sum, bigSep_dir]
  rfl
theorem bar0_eq (c : Dev nD) : (unscopedSems0 c : sProp 𝕄) = semVal (barCell c) 0 := by
  unfold unscopedSems0; rw [bigSep_eq_bigSepL_of_eq [SemLoc.reg barS] (by decide) (by decide)]; rfl

/-- The cells' counters, apart from the local copies'. -/
theorem sems_split (c : Dev nD) : iprop(own0 (F := F) c ∗ unscopedSems0 c)
    ⊢ iprop(bigSep Finset.univ (fun i : CI => (semVal (kcell c i) 0 : sProp 𝕄)) ∗ locZ (F := F) c ∗ spare (F := F) c) := by
  rw [own0_eq, bar0_eq, bigSep_cells]
  iintro ⟨⟨⟨HS, HR⟩, HX, HC, HP⟩, HB⟩
  isplitl [HS HR HB]
  · isplitl [HB]; · iexact HB
    isplitl [HS]; · iexact HS
    iexact HR
  isplitl [HX HC]
  · iapply (locZ_intro c)
    isplitl [HX]; · iexact HX
    iexact HC
  iexact HP
theorem sems_join (c : Dev nD) : iprop((zeros (F := F) 0 c ∗ zeros (F := F) 1 c ∗ zeros (F := F) 2 c) ∗ locZ (F := F) c ∗ spare (F := F) c) ⊢ own0 (F := F) c := by
  rw [own0_eq, ← zeros_eq, ← zeros_eq, ← zeros_eq, ← bigSep_parts (fun x : PS => trZ (F := F) x.1 x.2 c), bigSep_sep']
  iintro ⟨⟨HS, HR⟩, HL, HP⟩
  ihave HL := (locZ_elim c) $$ HL
  icases HL with ⟨HX, HC⟩
  isplitl [HS HR]
  · isplitl [HS]; · iexact HS
    iexact HR
  isplitl [HX]; · iexact HX
  isplitl [HC]; · iexact HC
  iexact HP

/-! ## The rights dealt out -/

theorem kcell_injective : Function.Injective (fun x : Dev nD × CI => kcell x.1 x.2) := by
  rintro ⟨c, i⟩ ⟨c', i'⟩ h
  have h1 : c = c' := congrArg (fun g : GSem nD τ sig => g.1.1) h
  have h2 : i = i' := csem_injective (congrArg Prod.snd h)
  rw [h1, h2]
def bCells : Finset (GSem nD τ sig) := Finset.univ.map ⟨fun x : Dev nD × CI => kcell x.1 x.2, kcell_injective⟩

/-- A device's duties: its barrier's three, and one of each of its other cells. -/
abbrev TI : Type := Fin 3 ⊕ (Bool × PS)
def tokOf (x : Dev nD × TI) : GSem nD τ sig × ℕ × Fin 3 := match x.2 with
  | .inl μ => (barCell x.1, 0, μ)
  | .inr i => (kcell x.1 (some i), 0, 0)
theorem tokOf_injective : Function.Injective tokOf := by
  rintro ⟨c, t⟩ ⟨c', t'⟩ h
  have h1 : c = c' := by
    have := congrArg (fun g : GSem nD τ sig × ℕ × Fin 3 => g.1.1.1) h
    rcases t with μ | i <;> rcases t' with μ' | i' <;> exact this
  subst h1
  have h3 := congrArg (fun g : GSem nD τ sig × ℕ × Fin 3 => g.1.2) h
  have h4 := congrArg (fun g : GSem nD τ sig × ℕ × Fin 3 => g.2.2) h
  rcases t with μ | i <;> rcases t' with μ' | i'
  · exact congrArg (fun z => (c, Sum.inl z)) h4
  · exact absurd (csem_injective (a₁ := none) (a₂ := some i') h3) (by simp)
  · exact absurd (csem_injective (a₁ := some i) (a₂ := none) h3) (by simp)
  · have := csem_injective (a₁ := some i) (a₂ := some i') h3
    rw [Option.some.inj this]
def bToks : Finset (GSem nD τ sig × ℕ × Fin 3) := Finset.univ.map ⟨tokOf, tokOf_injective⟩
abbrev tok (x : Dev nD × TI) : sProp 𝕄 := dutyTok ER (tokOf x).1 (tokOf x).2.1 (tokOf x).2.2

/-- Whose duty a device discharges. -/
def payer : Dev nD × TI → Dev nD × TI
  | (c, .inl μ) => (par μ c, .inl μ)
  | (c, .inr (false, x)) => (c, .inr (false, x))
  | (c, .inr (true, x)) => (peer x.1 x.2 c, .inr (true, x))
theorem payer_payer : Function.Involutive payer := by
  rintro ⟨c, μ | ⟨_ | _, p, s⟩⟩
  · exact congrArg (fun z => (z, _)) (par_par μ c)
  · rfl
  · exact congrArg (fun z => (z, _)) (peer_peer p s c)

/-- What the launch deals a device. -/
def G (c : Dev nD) : sProp 𝕄 :=
  iprop(bigSep Finset.univ (fun i : CI => roundState ER (Rd (F := F) m) (kcell c i) 0)
    ∗ bigSep Finset.univ (fun i : CI => atPos ER (kcell c i) 0 (∅ : Finset (Fin 3)) 0) ∗ bigSep Finset.univ (fun i : CI => reached ER (kcell c i) 0)
    ∗ bigSep Finset.univ fun t : TI => tok (F := F) (c, t))

theorem fund : BI.own (ER (initOf bCells bToks)) ⊢ (|==> bigSep Finset.univ (G m) : sProp 𝕄) := by
  have hX (Φ : GSem nD τ sig → sProp 𝕄) : bigSep bCells Φ = bigSep Finset.univ fun c : Dev nD => bigSep Finset.univ fun i : CI => Φ (kcell c i) := by
    unfold bCells; rw [bigSep_map, bigSep_univ_prod]; rfl
  have hT : bigSep bToks (fun x => (dutyTok ER x.1 x.2.1 x.2.2 : sProp 𝕄)) = bigSep Finset.univ fun c : Dev nD => bigSep Finset.univ fun t : TI => tok (F := F) (c, t) := by
    unfold bToks; rw [bigSep_map, bigSep_univ_prod]; rfl
  iintro HX
  imod (Rounds.fund ER (Rd (F := F) m) bCells bToks) $$ HX with ⟨Hst, Hr, Hat, Htok⟩
  imodintro
  unfold G; simp only [bigSep_sep']
  rw [← hX fun g => roundState ER (Rd (F := F) m) g 0, ← hX fun g => atPos ER g 0 ∅ 0, ← hX fun g => reached ER g 0, ← hT]
  isplitl [Hst]; · iexact Hst
  isplitl [Hat]; · iexact Hat
  isplitl [Hr]; · iexact Hr
  iexact Htok

/-- A device's positions and the tokens of the duties it discharges. -/
def linear (c : Dev nD) : sProp 𝕄 :=
  iprop(bigSep Finset.univ (fun i : CI => atPos ER (kcell c i) 0 (∅ : Finset (Fin 3)) 0) ∗ bigSep Finset.univ (fun t : TI => tok (F := F) (payer (c, t)))
    ∗ locZ (F := F) c ∗ spare (F := F) c)
def records : sProp 𝕄 := bigSep Finset.univ fun x : Dev nD × CI => iprop(cellInv ER (Rd (F := F) m) (K x) (kcell x.1 x.2) ∗ reached ER (kcell x.1 x.2) 0)
instance records_persistent : BI.Persistent (records m K) := by unfold records; infer_instance
def G' (c : Dev nD) : sProp 𝕄 := iprop((∃ K, records m K) ∗ linear (F := F) c)

theorem toks_dealt : (bigSep Finset.univ fun c : Dev nD => bigSep Finset.univ fun t : TI => tok (F := F) (c, t))
    = bigSep Finset.univ fun c : Dev nD => bigSep Finset.univ fun t : TI => tok (F := F) (payer (c, t)) := by
  rw [← bigSep_univ_prod (fun x : Dev nD × TI => tok (F := F) x), ← bigSep_univ_prod (fun x : Dev nD × TI => tok (F := F) (payer x))]
  exact bigSep_univ_equiv payer_payer.toPerm _

theorem core_alloc (c : Dev nD) : iprop(own0 (F := F) c ∗ unscopedSems0 c ∗ G m c)
    ⊢ |={Set.univ}=> iprop((bigSep Finset.univ fun i : CI => iprop(∃ κ : ℕ, cellInv ER (Rd (F := F) m) κ (kcell c i)))
        ∗ (bigSep Finset.univ (fun i : CI => reached ER (kcell c i) 0) ∗ bigSep Finset.univ fun t : TI => tok (F := F) (c, t))
        ∗ bigSep Finset.univ (fun i : CI => atPos ER (kcell c i) 0 (∅ : Finset (Fin 3)) 0) ∗ locZ (F := F) c ∗ spare (F := F) c) := by
  unfold G
  iintro ⟨Hos, Hus, Hst, Hat, Hr, Htok⟩
  ihave Hv := (sems_split c) $$ [Hos Hus]
  · isplitl [Hos] <;> iassumption
  icases Hv with ⟨Hv, HL, HS⟩
  imod (show iprop(bigSep Finset.univ (fun i : CI => (semVal (kcell c i) 0 : sProp 𝕄)) ∗ bigSep Finset.univ fun i : CI => roundState ER (Rd (F := F) m) (kcell c i) 0)
      ⊢ (|={Set.univ}=> bigSep Finset.univ fun i : CI => iprop(∃ κ : ℕ, cellInv ER (Rd (F := F) m) κ (kcell c i)) : sProp 𝕄) from by
        rw [← bigSep_sep']
        exact (bigSep_mono fun i _ => (Rounds.body_intro ER (Rd (F := F) m) (kcell c i)).trans inv_alloc).trans (bigSep_fupd _ _)) $$ [Hv Hst] with Hinv
  · isplitl [Hv] <;> iassumption
  imodintro
  isplitl [Hinv]; · iexact Hinv
  isplitl [Hr Htok]; · isplitl [Hr] <;> iassumption
  isplitl [Hat]; · iexact Hat
  isplitl [HL] <;> iassumption

theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd (F := F) m) κ (kcell c i)))
        ∗ (bigSep Finset.univ (fun i : CI => reached ER (kcell c i) 0) ∗ bigSep Finset.univ fun t : TI => tok (F := F) (c, t))
        ∗ bigSep Finset.univ (fun i : CI => atPos ER (kcell c i) 0 (∅ : Finset (Fin 3)) 0) ∗ locZ (F := F) c ∗ spare (F := F) c) : sProp 𝕄)
      ⊢ bigSep Finset.univ (G' m) := by
  rw [bigSep_sep', bigSep_sep', bigSep_sep', ← bigSep_univ_prod (fun x : Dev nD × CI => iprop(∃ κ : ℕ, cellInv ER (Rd (F := F) m) κ (kcell x.1 x.2))),
    ← bigSep_univ_prod (fun x : Dev nD × CI => (reached ER (kcell x.1 x.2) 0 : sProp 𝕄)), toks_dealt]
  iintro ⟨HI, ⟨#HR, Htok⟩, Hrest⟩
  ihave HK := (BI.bigSep_exists_pi Finset.univ (fun (x : Dev nD × CI) (κ : ℕ) => (cellInv ER (Rd (F := F) m) κ (kcell x.1 x.2) : sProp 𝕄))) $$ HI
  icases HK with ⟨%K, #HI⟩
  iapply (bigSep_under (R := records m K) (Φ := fun c : Dev nD => iprop(bigSep Finset.univ (fun t : TI => tok (F := F) (payer (c, t)))
      ∗ bigSep Finset.univ (fun i : CI => atPos ER (kcell c i) 0 (∅ : Finset (Fin 3)) 0) ∗ locZ (F := F) c ∗ spare (F := F) c)) fun c _ => by
    unfold G' linear
    iintro ⟨#H, HT, HA, HL⟩
    isplitr; · iexists K; iexact H
    isplitl [HA]; · iexact HA
    isplitl [HT] <;> iassumption)
  isplitr
  · unfold records; rw [bigSep_sep']
    isplitl; · iexact HI
    iexact HR
  iapply (Entails.of_eq (bigSep_sep' Finset.univ (fun c : Dev nD => bigSep Finset.univ fun t : TI => tok (F := F) (payer (c, t))) _).symm)
  isplitl [Htok] <;> iassumption

/-- Every device's semaphores become cells at once. -/
theorem glob : (bigSep Finset.univ fun c => iprop(own0 (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit at launch -/

theorem debt_at (l : List (GSem nD τ sig × ℕ)) (g : GSem nD τ sig) : debt l g () = (l.map fun x => if g = x.1 then x.2 else 0).sum := by
  induction l with
  | nil => rfl
  | cons x l ih =>
    rw [debt_cons, Pi.add_apply, Finsupp.add_apply, tallyAt_apply, ih, List.map_cons, List.sum_cons, Nat.add_comm]
    congr 1
    by_cases h : g = x.1
    · rw [if_pos ⟨h, rfl⟩, if_pos h]
    · rw [if_neg (fun h' => h h'.1), if_neg h]

/-- Of the devices one owes a given cell, if any does. -/
theorem owed_one (f : Dev nD → Dev nD) (hf : Function.Involutive f) (c : Dev nD) (i j : CI) (n : ℕ) :
    ∑ d : Dev nD, (if kcell c i = kcell (f d) j then n else 0) = if i = j then n else 0 := by
  by_cases h : i = j
  · subst h
    rw [if_pos rfl, Finset.sum_congr rfl fun d _ => if_congr (show kcell c i = kcell (f d) i ↔ d = f c from
      ⟨fun e => by rw [show c = f d from congrArg (fun g : GSem nD τ sig => g.1.1) e, hf d], fun e => by rw [e, hf c]⟩) rfl rfl,
      Finset.sum_ite_eq' Finset.univ (f c) fun _ => n, if_pos (Finset.mem_univ _)]
  · rw [if_neg h]
    exact Finset.sum_eq_zero fun d _ => if_neg fun e => h (csem_injective (congrArg Prod.snd e))

def lent0 : CI → ℕ
  | none => 3
  | some (false, _, _) => 0
  | some (true, p, s) => crd p s

theorem owed_cell (c : Dev nD) (i : CI) : ∑ d : Dev nD, O₀ d (kcell c i) () = lent0 i := by
  have hB (μ : Fin 3) : ∑ d : Dev nD, (if kcell c i = (dB d μ).1 then (dB d μ).2 else 0) = if i = none then 1 else 0 :=
    owed_one (par μ) (par_par μ) c i none 1
  have hR (x : PS) : ∑ d : Dev nD, (if kcell c i = (dR d x.1 x.2).1 then (dR d x.1 x.2).2 else 0) = if i = some (true, x) then crd x.1 x.2 else 0 :=
    owed_one (peer x.1 x.2) (peer_peer x.1 x.2) c i (some (true, x)) (crd x.1 x.2)
  have hs (d : Dev nD) : O₀ d (kcell c i) () = (if kcell c i = (dB d 0).1 then (dB d 0).2 else 0) + ((if kcell c i = (dB d 1).1 then (dB d 1).2 else 0)
      + ((if kcell c i = (dB d 2).1 then (dB d 2).2 else 0) + ∑ x : PS, if kcell c i = (dR d x.1 x.2).1 then (dR d x.1 x.2).2 else 0)) := by
    unfold O₀ owedR
    rw [debt_at, List.map_cons, List.map_cons, List.map_cons, List.sum_cons, List.sum_cons, List.sum_cons, List.drop_zero, List.map_map,
      ← show xfers.toFinset = Finset.univ from by decide, List.sum_toFinset _ (by decide)]
    rfl
  rw [Finset.sum_congr rfl fun d _ => hs d, Finset.sum_add_distrib, Finset.sum_add_distrib, Finset.sum_add_distrib, hB, hB, hB, Finset.sum_comm,
    Finset.sum_congr rfl fun x _ => hR x]
  rcases i with _ | ⟨_ | _, x⟩
  · rw [Finset.sum_eq_zero fun x _ => if_neg (by simp)]; rfl
  · rw [Finset.sum_eq_zero fun y _ => if_neg (by simp)]; rfl
  · rw [Finset.sum_eq_single x (fun y _ h => if_neg fun e => h (by simpa using e.symm)) (fun h => absurd (Finset.mem_univ x) h), if_pos rfl]
    simp [lent0]

theorem launch_cell (c : Dev nD) (i : CI) :
    tallyOn (kcell c i) (launchCredit (Pipeline.owing O₀) 0 (kcell c i)) = (tallyAt (kcell c i) () (lent0 i) : CellTallies nD τ sig Unit) := by
  unfold tallyAt; refine congrArg _ (Finsupp.ext fun u => ?_); cases u
  rw [Pipeline.launchCredit_owing, Finsupp.single_eq_same, owed_cell]

theorem creds (c : Dev nD) : (Pipeline.launchCred O₀ c : sProp 𝕄)
    ⊢ iprop(cred (tallyAt (barCell c) () 3) ∗ bigSep Finset.univ fun x : PS => cred (tallyAt (recvCell x.1 x.2 c) () (crd x.1 x.2))) := by
  unfold Pipeline.launchCred
  refine (bigSep_subset (t := Finset.univ.map ⟨csem, csem_injective⟩) (Finset.subset_univ _)).trans ?_
  refine (Entails.of_eq ((bigSep_map ..).trans ((bigSep_congr fun i _ => congrArg cred (launch_cell c i)).trans (bigSep_cells _)))).trans ?_
  iintro ⟨HB, -, HR⟩
  isplitl [HB]; · iexact HB
  iexact HR

/-- Positions, tokens and credit are the rights a device starts with. -/
theorem rights_intro (c : Dev nD) :
    iprop(bigSep Finset.univ (fun i : CI => atPos ER (kcell c i) 0 (∅ : Finset (Fin 3)) 0) ∗ bigSep Finset.univ (fun t : TI => tok (F := F) (payer (c, t)))
      ∗ cred (tallyAt (barCell c) () 3) ∗ bigSep Finset.univ fun x : PS => cred (tallyAt (recvCell x.1 x.2 c) () (crd x.1 x.2))) ⊢ rights (F := F) c := by
  unfold rights barR
  rw [bigSep_cells, bigSep_duties, ← toks_eq, ← toks_eq, ← toks_eq,
    ← bigSep_parts (fun x : PS => iprop(trX (F := F) x.1 x.2 c ∗ trR (F := F) x.1 x.2 c))]
  unfold trX trR trT
  rw [bigSep_sep', bigSep_sep', bigSep_sep', bigSep_sep']
  iintro ⟨⟨HB, HS, HR⟩, ⟨HT, HTS, HTR⟩, HC, HCR⟩
  isplitl [HT]; · iexact HT
  isplitl [HB HC]
  · isplitl [HB]; · iexact HB
    iexact HC
  isplitl [HTS HTR HS]
  · isplitl [HTS HTR]
    · isplitl [HTS]; · iexact HTS
      iexact HTR
    iexact HS
  isplitl [HR]; · iexact HR
  iexact HCR

end Cert.KProof
-- ==== Proof.Launch.lean ====
/-
# The run

The launch, and what every run of the kernel ends with: at each device the sum, the arguments
unchanged and every counter at zero. Stated for any float values.
-/
module

public import proofs.«01_k».proof.Proof.Deal
public import proofs.«01_k».proof.Proof.Gen.KernelIdeal.Points
public import Idealize.ShloMosaic.Lib.Pipeline.CollectiveSegs

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

variable (ρ : Dev nD → PrngReg)

/-! ## The pipeline's data: one point, two inputs -/

/-- What a device starts from, apart from its scratch buffers; what it ends with. -/
def start (c : Dev nD) : sProp 𝕄 :=
  iprop((∃ K, env m K) ∗ rights (F := F) c ∗ locZ (F := F) c ∗ spare (F := F) c ∗ inX m c ∗ full (F := F) main_v1 c)
def Φ₀ (c : Dev nD) : sProp 𝕄 := iprop(start m c ∗ scr (F := F) c)
def fin (c : Dev nD) : sProp 𝕄 := iprop(inX m c ∗ pt main_v1 c Finset.univ fullShare (OUT m c))
def Φ₁ (c : Dev nD) : sProp 𝕄 :=
  iprop((semVal (barCell c) 0 ∗ fin m c) ∗ ((zeros (F := F) 0 c ∗ zeros (F := F) 1 c ∗ zeros (F := F) 2 c) ∗ locZ (F := F) c ∗ spare (F := F) c) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => karr m c
    | ⟨1, _⟩ => warr m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem blk_k (f : S4x512.Idx → Elt F .f32) : (win0_0.blk (0 : Fin 1)).view.read (Elt F) f = f := by
  funext i
  show f _ = f i
  congr 1
  funext a
  apply Fin.ext
  fin_cases a <;> exact (Nat.zero_add _).trans (Nat.one_mul _)
theorem blk_w (f : S512x512.Idx → Elt F .f32) : (win0_1.blk (0 : Fin 1)).view.read (Elt F) f = f := by
  funext i
  show f _ = f i
  congr 1
  funext a
  apply Fin.ext
  fin_cases a <;> exact (Nat.zero_add _).trans (Nat.one_mul _)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def pre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def post (c : Dev nD) : sProp 𝕄 :=
  iprop(Φ₁ m c ∗ (dats m ρ 0 c).owesAt () t0_0.succ ∗ stg c cc0_stg0_0 (karr m c) ∗ stg c cc0_stg1_0 (warr m c))

theorem sound (c : Dev nD) : pre m ρ c ⊢ WPc c (onBufs (cc0_body (F := F))) (fun _ => post m ρ c) := by
  unfold pre Φ₀ start
  iintro ⟨⟨⟨⟨%K, #HE⟩, HR, HL, HS, HX, HV⟩, HC⟩, HO, ⟨%d0, %g0, %hg0, Hk⟩, ⟨%d1, %g1, %hg1, Hw⟩⟩
  have hk : g0 = karr m c := by
    rw [hg0]; unfold Dat.before; rw [if_pos (fetch0_0 t0_0)]; exact blk_k (F := F) (karr m c)
  have hw : g1 = warr m c := by
    rw [hg1]; unfold Dat.before; rw [if_pos (fetch0_1 t0_0)]; exact blk_w (F := F) (warr m c)
  subst hk hw
  unfold Dat.owesAt Pipeline.owesWithin
  icases HO with ⟨%W, %hW, HO⟩
  rw [show (dats m ρ 0 c).owed t0_0.castSucc = O₀ c from rfl]
  iapply (body m K c (fun _ => post m ρ c)) $$ HE HR HL [HO] HX Hk Hw HV HC
  · iexists W
    iexact HO
  iintro ⟨HB, HZ⟩ HL HO HX Hk Hw HV HC
  unfold post Φ₁ fin Dat.owesAt Pipeline.owesWithin
  rw [show (dats m ρ 0 c).owed t0_0.succ = 0 from rfl]
  isplitl [HB HZ HL HS HX HV HC]
  · isplitl [HB HX HV]
    · isplitl [HB]; · iexact HB
      isplitl [HX]; · iexact HX
      iexact HV
    isplitl [HZ HL HS]
    · isplitl [HZ]; · iexact HZ
      isplitl [HL]; · iexact HL
      iexact HS
    iexact HC
  isplitl [HO]
  · unfold ow
    icases HO with ⟨%W', HO⟩
    iexists W'
    isplitr; · ipureintro; exact fun _ _ => Or.inl trivial
    iexact HO
  isplitl [Hk]
  · iexists _; isplitr; · (ipureintro; rfl)
    iexact Hk
  iexists _; isplitr; · (ipureintro; rfl)
  iexact Hw

theorem obligation (c : Dev nD) : BodyObligation (dats (F := F) m ρ 0 c) (defs₀ (F := F)) 𝒱₀ () Set.univ := fun t => by
  rw [fin_N0 t]
  rw [show (∀ Φ : Fin cfg0.W → sProp 𝕄, bigSep Finset.univ Φ = iprop(Φ (0 : Fin 2) ∗ Φ (1 : Fin 2))) from fun Φ => bigSep_W0 Φ,
    show (∀ Φ : Fin cfg0.W → sProp 𝕄, bigSep Finset.univ Φ = iprop(Φ (0 : Fin 2) ∗ Φ (1 : Fin 2))) from fun Φ => bigSep_W0 Φ]
  simp only [owns_stg]
  exact sound m ρ c

/-! ## The launch -/

def u₀ : UU := (initOf (Pipeline.cells cfgs cellOf_inj) (Pipeline.launchToks cfgs cellOf_inj), (initOf bCells bToks, 1))
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' linear start
  iintro ⟨⟨HX, HV⟩, Hlev, Hcr, -, ⟨%K, HK⟩, HA, HT, HL, HS⟩
  ihave Hc := (creds c) $$ Hcr
  icases Hc with ⟨HB, HR⟩
  imodintro
  isplitl
  · isplitl [HK Hlev]
    · iexists K
      unfold env records
      isplitl [HK]; · iexact HK
      iexact Hlev
    isplitl [HA HT HB HR]
    · iapply (rights_intro c)
      isplitl [HA]; · iexact HA
      isplitl [HT]; · iexact HT
      isplitl [HB]; · iexact HB
      iexact HR
    isplitl [HL]; · iexact HL
    isplitl [HS]; · iexact HS
    isplitl [HX]; · iexact HX
    iapply (any_intro (b := main_v1)); iexact HV
  · iempintro

theorem scr_eq (c : Dev nD) : (Pipeline.scopedRest (Ix := Unit) (Name := ℕ) (U := UU) (Lvl := ℕ) (Val := Elt F) spec0 c : sProp 𝕄) = scr (F := F) c := by
  rw [scopedRest0_eq]; unfold scr full any; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Entails.of_eq (scr_eq c)); iexact Hr

theorem phi1_exit (c : Dev nD) :
    (dats m ρ 0 c).Φ (Fin.last cfg0.N) ⊢ iprop((unscopedSems0 c ∗ fin m c) ∗ Pipeline.ownSems0 osem c ∗ Pipeline.scopedRest cfg0.spec c) := by
  rw [show (dats m ρ 0 c).Φ (Fin.last cfg0.N) = Φ₁ m c from rfl, bar0_eq]
  unfold Φ₁
  iintro ⟨HB, HZ, HC⟩
  isplitl [HB]; · iexact HB
  isplitl [HZ]; · iapply (sems_join c); iexact HZ
  iapply (Entails.of_eq (scr_eq c).symm); iexact HC

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ (dB c 0 :: dB c 1 :: dB c 2 :: owedR c 0) fun x hx => ?_
      have h0 : lvl (.dma (((cfgs 0).win w).sem s)) = 0 := by fin_cases w <;> fin_cases s <;> decide +kernel
      rw [h0]
      simp only [List.mem_cons] at hx
      rcases hx with rfl | rfl | rfl | hx
      · exact ⟨rfl, Nat.one_pos⟩
      · exact ⟨rfl, Nat.one_pos⟩
      · exact ⟨rfl, Nat.one_pos⟩
      · exact owedR_lvl c 0 0 (fun y _ => Nat.succ_pos _) x hx
    · show _ ⊢ MayWait (c : Thread nD τ) _ () 0
      rw [MayWait_zero]; iintro -; iempintro

/-- Every device ends with the result, its arguments as they were, and all its counters at zero. -/
def Fine : PUnit × MemSt nD τ sig (Elt F) → Prop := fun r =>
  (∀ c : Dev nD, r.2.mem ((c : Thread nD τ).loc main_v1) = OUT m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

theorem read_one (c : Dev nD) (b : Ref sig .tc) (f : b.ty.Contents (Elt F)) (s' : Phys nD τ sig (Elt F)) :
    iprop(pt b c Finset.univ fullShare f ∗ SI s') ⊢ (iprop(⌜s'.mem.mem ((c : Thread nD τ).loc b) = f⌝ ∗ SI s') : sProp 𝕄) := by
  have h := pointsTo_read_all (Ix := Unit) (Name := ℕ) (U := UU) (Lvl := ℕ) ({()} : Finset Unit) (fun _ => (c : Thread nD τ).loc b) (fun _ => f) s'
  rw [bigSep_singleton] at h
  refine h.trans ?_
  iintro ⟨%h, H⟩
  isplitr
  · ipureintro; exact h () (Finset.mem_singleton_self _)
  iexact H

set_option maxRecDepth 8000 in
theorem run_main : θ_run defs (onTc (τ := τ) (main (F := F))) (s₀ m ρ) (Fine m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ fin m c)) (Z := fun _ => iprop(emp))
    (hX := start_intro m ρ) (hin := phi0_intro m ρ) (hout := phi1_exit m ρ)
    (QY := fun c s => (s.mem ((c : Thread nD τ).loc main_arg0) = m ((c : Thread nD τ).loc main_arg0) ∧ s.mem ((c : Thread nD τ).loc main_v1) = OUT m c)
      ∧ ∀ sm : SemLoc sig, sm.isScoped .tc = false → s.sem ((c.tc : Thread nD τ), sm) = 0)
    (hY := fun c s' => by
      unfold fin
      iintro ⟨⟨Hu, HX, HV⟩, -, HSI⟩
      ihave H := (read_one c main_arg0 (xarr m c) s') $$ [HX HSI]
      · isplitl [HX] <;> iassumption
      icases H with ⟨%hx, HSI⟩
      ihave H := (read_one c main_v1 (OUT m c) s') $$ [HV HSI]
      · isplitl [HV] <;> iassumption
      icases H with ⟨%hv, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨⟨hx, hv⟩, hs⟩
      iexact HSI)
    (hQ := fun _ h hs => ⟨fun c => ⟨(h c).2.2.1.2, (h c).2.2.1.1, ((h c).1 (0 : Fin 2)).trans ((dats (F := F) m ρ 0 c).arrAt_in (0 : Fin 2) rfl _),
      ((h c).1 (1 : Fin 2)).trans ((dats (F := F) m ρ 0 c).arrAt_in (1 : Fin 2) rfl _)⟩, sem_eq_zero hs fun c => (h c).2.2.2⟩)

end Cert.KProof
-- ==== Proof.Form.lean ====
/-
# The common form of the result

Both sides are a sum over columns of the activated convolution times the projection.  `conv` is
written for any number of columns, so it reads a device's block and the whole array alike.
-/
module

public import proofs.«01_k».proof.Proof.Gen.ReferenceIdeal.Run
public import Idealize.ShloMosaic.Lib.Pointwise
public import Idealize.ShloMosaic.Lib.IdealHost
public import Idealize.ShloMosaic.Lib.Tactic.CleanTypes

@[expose] public section
set_option maxRecDepth 16384
noncomputable section
namespace Cert.KVal
open Idealize.ShloMosaic

/-- A batch and a column, `t` rows down from three rows of zeros. -/
def tap {N : ℕ} (X : (⟨3, ![4, 1024, N]⟩ : Shape).Idx → EReal) (b : Fin 4) (n t : ℕ) (x : Fin N) : EReal :=
  if n + t < 3 then 0 else X (ix3 b ⟨(n + t - 3) % 1024, Nat.mod_lt _ (by decide)⟩ x)
/-- The convolution with the four taps. -/
def conv {N : ℕ} (X : (⟨3, ![4, 1024, N]⟩ : Shape).Idx → EReal) (T : (⟨2, ![4, N]⟩ : Shape).Idx → EReal) (b : Fin 4) (n : ℕ) (x : Fin N) : EReal :=
  tap X b n 0 x * T (ix2 0 x) + tap X b n 1 x * T (ix2 1 x) + tap X b n 2 x * T (ix2 2 x) + tap X b n 3 x * T (ix2 3 x)
def act (z : EReal) : EReal := z * Ideal.logistic z
/-- Row `r`, column `l` of the product of the activated convolution with `W`. -/
def out {N : ℕ} (X : (⟨3, ![4, 1024, N]⟩ : Shape).Idx → EReal) (T : (⟨2, ![4, N]⟩ : Shape).Idx → EReal) (W : (⟨2, ![N, 512]⟩ : Shape).Idx → EReal)
    (r : Fin 4096) (l : Fin 512) : EReal :=
  ∑ x : Fin N, act (conv X T ⟨r.val / 1024, by omega⟩ (r.val % 1024) x) * W (ix2 x l)

theorem exp_nonneg (z : EReal) : 0 ≤ Ideal.exp z := by
  induction z with
  | bot => exact le_refl _
  | top => exact le_top
  | coe r => exact EReal.coe_nonneg.2 (Real.exp_pos r).le

theorem act_eq (z : EReal) : Ideal.div z (1 + Ideal.exp (-z)) = act z := by
  have h : (1 : EReal) + Ideal.exp (-z) ≠ 0 :=
    ne_of_gt (lt_of_lt_of_le one_pos (le_add_of_nonneg_right (exp_nonneg _)))
  exact (Ideal.mul_one_div h).symm

section
open Cert.ReferenceIdeal Cert.ReferenceIdeal.Gen

theorem ref_at (m : (ℓ : Loc nD τ sig) → Buf (Elt Ideal) ℓ) (r : Fin 4096) (l : Fin 512) :
    (show S4096x512.Idx → EReal from Value.res_out0 (F := Ideal) m 0) (ix2 r l)
      = out (N := 4096) (m (((0 : Dev nD).tc : Thread nD τ).loc main_arg0)) (m (((0 : Dev nD).tc : Thread nD τ).loc main_arg1))
          (m (((0 : Dev nD).tc : Thread nD τ).loc main_arg2)) r l := by
  unfold Value.res_out0 Value.res_main_v37
  clean_types
  pointwise
  simp only [act_eq]
  have hr := r.isLt
  refine Finset.sum_congr rfl fun x _ => congrArg (fun z => act z * _) ?_
  unfold conv
  have e (t : ℕ) (p : Prop) [Decidable p] (a : ¬p → EReal) (h : p ↔ r.val % 1024 + t < 3)
      (ha : ∀ hp, a hp = m (((0 : Dev nD).tc : Thread nD τ).loc main_arg0) (ix3 ⟨r.val / 1024, by omega⟩ ⟨(r.val % 1024 + t - 3) % 1024, Nat.mod_lt _ (by decide)⟩ x)) :
      (if h : p then 0 else a h) = tap (N := 4096) (m (((0 : Dev nD).tc : Thread nD τ).loc main_arg0)) ⟨r.val / 1024, by omega⟩ (r.val % 1024) t x := by
    unfold tap
    by_cases hp : p
    · rw [dif_pos hp, if_pos (h.1 hp)]
    · rw [dif_neg hp, if_neg (fun q => hp (h.2 q)), ha]
  have f (t : ℕ) (y : Fin 1024) (hy : y.val = (r.val % 1024 + t - 3) % 1024) :
      (ix3 (⟨r.val / 1024, by omega⟩ : Fin 4) y x) = ix3 ⟨r.val / 1024, by omega⟩ ⟨(r.val % 1024 + t - 3) % 1024, Nat.mod_lt _ (by decide)⟩ x :=
    congrArg (fun y => ix3 _ y x) (Fin.ext hy)
  refine congrArg₂ (· + ·) (congrArg₂ (· + ·) (congrArg₂ (· + ·) ?_ ?_) ?_) ?_ <;> refine congrArg (· * _) ?_
  · exact e 0 _ _ (by omega) fun hp => congrArg _ (f 0 _ (by simp only; omega))
  · exact e 1 _ _ (by omega) fun hp => congrArg _ (f 1 _ (by simp only; omega))
  · exact e 2 _ _ (by omega) fun hp => congrArg _ (f 2 _ (by simp only; omega))
  · refine Eq.trans (congrArg _ (f 3 ⟨r.val % 1024, Nat.mod_lt _ (by decide)⟩ ?_)) (if_neg (Nat.not_lt.2 (Nat.le_add_left 3 _))).symm
    show r.val % 1024 = (r.val % 1024 + 3 - 3) % 1024
    rw [Nat.add_sub_cancel, Nat.mod_mod]
end
end Cert.KVal
-- ==== Proof.Value.lean ====
/-
# The kernel's result is the reference's

A batch read at an index is the common form at the device's blocks; three exchanges across the
cube sum the eight devices' products, whichever part and half a row lies in; and the devices'
columns laid end to end are the whole array's.
-/
module

public import proofs.«01_k».proof.Proof.Sched
public import proofs.«01_k».proof.Proof.Form
public import Idealize.ShloMosaic.Lib.LayoutAt

@[expose] public section
set_option maxRecDepth 16384
noncomputable section
namespace Cert.KVal
open Cert.KernelIdeal Cert.KernelIdeal.Gen Idealize.ShloMosaic

theorem pay_at (w : Vec Ideal S512x512 .f32) (x8 x5 x6 x7 : Vec Ideal S1x1024x512 .f32) (k3 k0 k1 k2 : Vec Ideal S1x512 .f32) (r : Fin 1024) (l : Fin 512) :
    k0_pay5 (k0_pay4 (k0_pay1 w) x8 k3 x5 k0 x6 k1 x7 k2) (ix2 r l)
      = ∑ x : Fin 512, act (x5 (ix3 0 r x) * k0 (ix2 0 x) + x6 (ix3 0 r x) * k1 (ix2 0 x) + x7 (ix3 0 r x) * k2 (ix2 0 x)
          + x8 (ix3 0 r x) * k3 (ix2 0 x)) * w (ix2 x l) := by
  pointwise [k0_pay1, k0_pay4, k0_pay5]
  refine Finset.sum_congr rfl fun x _ => congrArg (fun z => act z * _) ?_
  rw [add_assoc, add_assoc, add_comm, ← add_assoc]

variable (m : (ℓ : Loc nD τ sig) → Buf (Elt Ideal) ℓ)

theorem xv_at (c : Dev nD) (b : Fin 4) (t : ℕ) (r : Fin 1024) (x : Fin 512) :
    KProof.xv m c b (5 + t) (ix3 0 r x) = tap (N := 512) (KProof.xarr m c) b r.val t x := by
  show KProof.xpad m c b (5 + t + r.val) x = _
  unfold KProof.xpad tap
  by_cases h : r.val + t < 3
  · rw [if_pos (by omega), if_pos h]; exact Ideal.ofBits_zero_f32
  · rw [if_neg (by omega), if_neg h]
    refine congrArg (KProof.xarr m c) ?_
    rw [show 5 + t + r.val - 8 = r.val + t - 3 by omega]
    exact eq_ix3 _
theorem kv_at (c : Dev nD) (t : Fin 4) (x : Fin 512) : KProof.kv m c t (ix2 0 x) = KProof.karr m c (ix2 t x) :=
  congrArg (KProof.karr m c) (eq_ix2 _)

/-- A device's partial product. -/
theorem part_at (c : Dev nD) (i : S4096x512.Idx) :
    KProof.Pc m c i = out (N := 512) (KProof.xarr m c) (KProof.karr m c) (KProof.warr m c) (i 0) (i 1) := by
  refine (pay_at (KProof.warr m c) _ _ _ _ _ _ _ _ ⟨(i 0).val % 1024, Nat.mod_lt _ (by decide)⟩ (i 1)).trans ?_
  refine Finset.sum_congr rfl fun x _ => congrArg (fun z => act z * _) ?_
  simp only [kv_at]
  rw [xv_at m c _ 3, xv_at m c _ 0, xv_at m c _ 1, xv_at m c _ 2]
  rfl

/-! ## The sum over the cube -/

/-- The eight places of the cube as a part meets them from `c`. -/
def around (p : Fin 3) (c : Dev nD) : Fin 8 → Dev nD :=
  ![c, KProof.peer p 0 c, KProof.peer p 1 c, KProof.peer p 0 (KProof.peer p 1 c), KProof.peer p 2 c, KProof.peer p 0 (KProof.peer p 2 c),
    KProof.peer p 1 (KProof.peer p 2 c), KProof.peer p 0 (KProof.peer p 1 (KProof.peer p 2 c))]
theorem around_injective (p : Fin 3) (c : Dev nD) : Function.Injective (around p c) := by revert p c; decide +kernel
theorem around_bijective (p : Fin 3) (c : Dev nD) : Function.Bijective (around p c) :=
  (Fintype.bijective_iff_injective_and_card _).2 ⟨around_injective p c, rfl⟩

/-- Three exchanges sum all eight. -/
theorem sum_at (p : Fin 3) (c : Dev nD) (i : S4096x512.Idx) : (show EReal from KProof.A3 m p c i) = ∑ d : Dev nD, (show EReal from KProof.Pc m d i) := by
  rw [← (around_bijective p c).sum_comp (fun d => (show EReal from KProof.Pc m d i)), Fin.sum_univ_eight]
  have assoc (a b c d e f g h : EReal) : a + b + c + d + e + f + g + h = a + b + (c + d) + (e + f + (g + h)) := by
    simp only [add_assoc]
  exact (assoc _ _ _ _ _ _ _ _).symm

theorem half_at (p : Fin 3) (c : Dev nD) (i : S4096x512.Idx) : (show EReal from KProof.OH m p c i) = ∑ d : Dev nD, (show EReal from KProof.Pc m d i) := by
  unfold KProof.OH; split <;> exact sum_at m p _ i
theorem whole_at (p : Fin 3) (c : Dev nD) (i : S4096x512.Idx) : (show EReal from KProof.OB m p c i) = ∑ d : Dev nD, (show EReal from KProof.Pc m d i) := by
  unfold KProof.OB; split <;> exact half_at m p _ i

theorem result_at (c : Dev nD) (i : S4096x512.Idx) : (show EReal from KProof.OUT m c i)
    = ∑ d : Dev nD, out (N := 512) (KProof.xarr m d) (KProof.karr m d) (KProof.warr m d) (i 0) (i 1) :=
  (whole_at m (KProof.partOf i) c i).trans (Finset.sum_congr rfl fun d _ => part_at m d i)

/-! ## The blocks -/

section
variable (X : (⟨3, ![4, 1024, 4096]⟩ : Shape).Idx → EReal) (T : (⟨2, ![4, 4096]⟩ : Shape).Idx → EReal) (W : (⟨2, ![4096, 512]⟩ : Shape).Idx → EReal)

theorem block_x (h : Layout.Tiles ⟨3, ![4, 1024, 512]⟩ ⟨3, ![4, 1024, 4096]⟩ 2 8) (d : Fin 8) (b : Fin 4) (n : Fin 1024) (x : Fin 512) :
    Layout.block ⟨3, ![4, 1024, 512]⟩ ⟨3, ![4, 1024, 4096]⟩ 2 8 d X h (ix3 b n x) = X (ix3 b n ⟨d.val * 512 + x.val, by omega⟩) := by
  shard_ext
theorem block_t (h : Layout.Tiles ⟨2, ![4, 512]⟩ ⟨2, ![4, 4096]⟩ 1 8) (d : Fin 8) (t : Fin 4) (x : Fin 512) :
    Layout.block ⟨2, ![4, 512]⟩ ⟨2, ![4, 4096]⟩ 1 8 d T h (ix2 t x) = T (ix2 t ⟨d.val * 512 + x.val, by omega⟩) := by
  shard_ext
theorem block_w (h : Layout.Tiles ⟨2, ![512, 512]⟩ ⟨2, ![4096, 512]⟩ 0 8) (d : Fin 8) (x l : Fin 512) :
    Layout.block ⟨2, ![512, 512]⟩ ⟨2, ![4096, 512]⟩ 0 8 d W h (ix2 x l) = W (ix2 ⟨d.val * 512 + x.val, by omega⟩ l) := by
  shard_ext

/-- The devices' sums are the whole sum, cut in eight. -/
theorem sum_blocks (hx : Layout.Tiles ⟨3, ![4, 1024, 512]⟩ ⟨3, ![4, 1024, 4096]⟩ 2 8) (ht : Layout.Tiles ⟨2, ![4, 512]⟩ ⟨2, ![4, 4096]⟩ 1 8)
    (hw : Layout.Tiles ⟨2, ![512, 512]⟩ ⟨2, ![4096, 512]⟩ 0 8) (r : Fin 4096) (l : Fin 512) :
    ∑ d : Fin 8, out (Layout.block ⟨3, ![4, 1024, 512]⟩ ⟨3, ![4, 1024, 4096]⟩ 2 8 d X hx) (Layout.block ⟨2, ![4, 512]⟩ ⟨2, ![4, 4096]⟩ 1 8 d T ht)
        (Layout.block ⟨2, ![512, 512]⟩ ⟨2, ![4096, 512]⟩ 0 8 d W hw) r l = out X T W r l := by
  unfold out
  rw [Fin.sum_univ_tiles 8 512 rfl]
  refine Finset.sum_congr rfl fun d _ => Finset.sum_congr rfl fun x _ => ?_
  simp only [conv, tap, block_x, block_t, block_w]
end

/-! ## The equation -/

theorem out_eq (m' : (ℓ : Loc Cert.ReferenceIdeal.nD Cert.ReferenceIdeal.τ Cert.ReferenceIdeal.sig) → Buf (Elt Ideal) ℓ)
    (h : ∀ c : Dev nD,
      m (c.tc.loc main_arg0) = Layout.block ⟨3, ![4, 1024, 512]⟩ ⟨3, ![4, 1024, 4096]⟩ 2 8 c (m' (((0 : Dev Cert.ReferenceIdeal.nD).tc).loc Cert.ReferenceIdeal.main_arg0))
      ∧ m (c.tc.loc main_arg1) = Layout.block ⟨2, ![4, 512]⟩ ⟨2, ![4, 4096]⟩ 1 8 c (m' (((0 : Dev Cert.ReferenceIdeal.nD).tc).loc Cert.ReferenceIdeal.main_arg1))
      ∧ m (c.tc.loc main_arg2) = Layout.block ⟨2, ![512, 512]⟩ ⟨2, ![4096, 512]⟩ 0 8 c (m' (((0 : Dev Cert.ReferenceIdeal.nD).tc).loc Cert.ReferenceIdeal.main_arg2)))
    (c : Dev nD) : KProof.OUT (F := Ideal) m c = Cert.ReferenceIdeal.Value.res_out0 (F := Ideal) m' 0 := by
  funext i
  refine (result_at m c i).trans ?_
  refine Eq.trans ?_ ((ref_at m' (i 0) (i 1)).symm.trans (congrArg (Cert.ReferenceIdeal.Value.res_out0 (F := Ideal) m' 0) (eq_ix2 i).symm))
  refine Eq.trans (Finset.sum_congr rfl fun d _ => ?_) (sum_blocks _ _ _ (by decide) (by decide) (by decide) (i 0) (i 1))
  show out (N := 512) (m (d.tc.loc main_arg0)) (m (d.tc.loc main_arg1)) (m (d.tc.loc main_arg2)) (i 0) (i 1) = _
  rw [(h d).1, (h d).2.1, (h d).2.2]
end Cert.KVal
-- ==== Proof.lean ====
/-
# The claims

Each frame reads a run back, and the preservation is of no rewrite. The value is the reference's, by
the lemmas of Value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

set_option maxRecDepth 10000

noncomputable section

namespace Cert.Proof

open Idealize.ShloMosaic Idealize.SL.Sem Cert.KProof Cert.KVal

/-- The run, forgetting the result, for any float values. -/
theorem frames {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)) ∧ r.2.sem = fun _ => 0) :=
  (θ_run Cert.KernelIdeal.defs _ _).mono (fun _ h => ⟨fun c => (h.1 c).2, h.2⟩) (run_main (F := F) m ρ)
/-- The two printed programs call one body: they differ only in the name of the table it is found in. -/
theorem bodies : Cert.Kernel.defs₀ (F := Bits) = Cert.KernelIdeal.defs₀ (F := Bits) :=
  congrArg (Defs.onTc (nD := Cert.Kernel.nD) (τ := Cert.Kernel.τ) (sig := Cert.Kernel.sig) (Val := Elt Bits) (Λ := Cert.Kernel.Λ₀)) (funext fun l => by
    obtain ⟨_ | _, hl⟩ := l
    · funext ⟨t, s⟩; rfl
    · exact absurd hl (Nat.not_lt.2 (Nat.le_add_left _ _)))
theorem tables : Cert.Kernel.defs (F := Bits) = Cert.KernelIdeal.defs (F := Bits) :=
  congrArg (Pipeline.defs (Cert.Kernel.pcfgs (F := Bits))) bodies
/-- The kernel as it runs, at machine floats. -/
theorem frame_kernel : Cert.quiescent_Kernel := fun m ρ _ => by
  rw [tables]
  exact frames (F := Bits) m ρ
/-- And read over the extended reals. -/
theorem frame_ideal : Cert.quiescent_KernelIdeal := fun m ρ _ => frames (F := Ideal) m ρ
/-- The reference has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- Both runs end with the same array. -/
theorem values : Cert.algebraic_KernelIdeal_ReferenceIdeal := fun m ρ m' ρ' _ h =>
  ⟨Cert.ReferenceIdeal.Value.res_out0 (F := Ideal) m' 0,
    (θ_run Cert.KernelIdeal.defs _ _).mono (fun _ hr c => ⟨(hr.1 c).1.trans (out_eq m m' h c), (hr.1 c).2⟩) (run_main (F := Ideal) m ρ),
    (θ_run Cert.ReferenceIdeal.defs _ _).mono (fun _ hr => hr 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, values⟩

end Cert.Proof

end
